-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m ((c.tc : Thread Cert.KernelIdeal.nD Cert.KernelIdeal.τ).loc Cert.KernelIdeal.main_arg0) = Layout.blockN ⟨2, ![768, 512]⟩ ⟨2, ![1536, 1024]⟩ (Layout.meshBlock [2, 2] ![[0], [1]] c) (m' (((0 : Dev Cert.ReferenceIdeal.nD).tc : Thread Cert.ReferenceIdeal.nD Cert.ReferenceIdeal.τ).loc Cert.ReferenceIdeal.main_arg0))
      ∧ m ((c.tc : Thread Cert.KernelIdeal.nD Cert.KernelIdeal.τ).loc Cert.KernelIdeal.main_arg1) = Layout.blockN ⟨1, ![512]⟩ ⟨1, ![1024]⟩ (Layout.meshBlock [2, 2] ![[1]] c) (m' (((0 : Dev Cert.ReferenceIdeal.nD).tc : Thread Cert.ReferenceIdeal.nD Cert.ReferenceIdeal.τ).loc Cert.ReferenceIdeal.main_arg1))) →
    ∃ (v0 : Buf (Elt Ideal) (((0 : Dev Cert.ReferenceIdeal.nD).tc : Thread Cert.ReferenceIdeal.nD Cert.ReferenceIdeal.τ).loc Cert.ReferenceIdeal.main_v15)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v4) = Layout.blockN ⟨2, ![768, 512]⟩ ⟨2, ![1536, 1024]⟩ (Layout.meshBlock [2, 2] ![[0], [1]] c) v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_v15) = v0
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0)
          ∧ r.2.mem (((0 : Dev Cert.ReferenceIdeal.nD).tc : Thread Cert.ReferenceIdeal.nD Cert.ReferenceIdeal.τ).loc Cert.ReferenceIdeal.main_arg1) = m' (((0 : Dev Cert.ReferenceIdeal.nD).tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S768x512 : Shape := ⟨2, ![768, 512]⟩
abbrev S512 : Shape := ⟨1, ![512]⟩
abbrev S6x128x512 : Shape := ⟨3, ![6, 128, 512]⟩
abbrev S1x1x512 : Shape := ⟨3, ![1, 1, 512]⟩
abbrev S2x6x128 : Shape := ⟨3, ![2, 6, 128]⟩
abbrev S_ : Shape := ⟨0, ![]⟩
abbrev S6x128 : Shape := ⟨2, ![6, 128]⟩
abbrev S1x6x128 : Shape := ⟨3, ![1, 6, 128]⟩
abbrev S6x128x1 : Shape := ⟨3, ![6, 128, 1]⟩

abbrev nBuf : Space → Nat
  | .hbm => 6
  | .vmem => 4
  | .smem => 0
  | _ => 0

abbrev bufTy : (tb : Table) → Fin (tcTables nBuf tb) → BufTy
  | .hbm, ⟨0, _⟩ => ⟨S768x512, .bf16⟩
  | .hbm, ⟨1, _⟩ => ⟨S512, .bf16⟩
  | .hbm, ⟨2, _⟩ => ⟨S6x128x512, .bf16⟩
  | .hbm, ⟨3, _⟩ => ⟨S1x1x512, .bf16⟩
  | .hbm, ⟨4, _⟩ => ⟨S6x128x512, .bf16⟩
  | .hbm, ⟨5, _⟩ => ⟨S768x512, .bf16⟩
  | .local _ .vmem, ⟨0, _⟩ => ⟨S6x128x512, .bf16⟩
  | .local _ .vmem, ⟨1, _⟩ => ⟨S1x1x512, .bf16⟩
  | .local _ .vmem, ⟨2, _⟩ => ⟨S6x128x512, .bf16⟩
  | .local _ .vmem, ⟨3, _⟩ => ⟨S2x6x128, .f32⟩
  | _, _ => ⟨S768x512, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | _, _ => false

abbrev semScoped : Fin 1 → Bool
  | ⟨0, _⟩ => false
  | _ => false

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  (ofTc nBuf bufTy 1 5 bufScoped semScoped dmaSemScoped tileCredit tileCredit_eq_zero tileCredit_pos).withBarriers [(0, 0)]

abbrev main_arg0 : Ref sig .tc := ⟨.hbm, 0, rfl⟩
abbrev main_arg1 : Ref sig .tc := ⟨.hbm, 1, rfl⟩
abbrev main_v1 : Ref sig .tc := ⟨.hbm, 2, rfl⟩
abbrev main_v2 : Ref sig .tc := ⟨.hbm, 3, rfl⟩
abbrev main_v3 : Ref sig .tc := ⟨.hbm, 4, rfl⟩
abbrev main_v4 : Ref sig .tc := ⟨.hbm, 5, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_scratch0 : Ref sig .tc := ⟨.vmem, 3, rfl⟩
abbrev cc0_sem0_0 : DmaSem sig := 0
abbrev cc0_sem1_0 : DmaSem sig := 1
abbrev cc0_sem2_0 : DmaSem sig := 2
abbrev barrier0 : Sem sig := 0

abbrev nD : Nat := 4
abbrev τ : Topo := Topo.v7x

variable {F : FTy → Type} [FloatOps F]

abbrev grid0 : Pipeline.Grid := .none

def k0_dev1 (d0 : Dev nD) : Nat :=
  let c0_i32 : BitVec 32 := 0#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c2_i32_4 : BitVec 32 := 2#32
  let v8 : BitVec 32 := Scalar.muli v2 c2_i32_4
  let v9 : BitVec 32 := Scalar.addi c0_i32 v8
  let c1_i32_2 : BitVec 32 := 1#32
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let v6 : BitVec 32 := Scalar.subi c1_i32_2 v5
  let c1_i32_5 : BitVec 32 := 1#32
  let v10 : BitVec 32 := Scalar.muli v6 c1_i32_5
  let v11 : BitVec 32 := Scalar.addi v9 v10
  v11.toNat
def k0_dev2 (d0 : Dev nD) : Nat :=
  let c0_i32_15 : BitVec 32 := 0#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c2_i32_14 : BitVec 32 := 2#32
  let v20 : BitVec 32 := Scalar.muli v2 c2_i32_14
  let v21 : BitVec 32 := Scalar.addi c0_i32_15 v20
  let c1_i32_2 : BitVec 32 := 1#32
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let v6 : BitVec 32 := Scalar.subi c1_i32_2 v5
  let c1_i32_16 : BitVec 32 := 1#32
  let v22 : BitVec 32 := Scalar.muli v6 c1_i32_16
  let v23 : BitVec 32 := Scalar.addi v21 v22
  v23.toNat
abbrev stage0_0 : Fin 1 → Memref sig .tc .vmem S6x128x512 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S1x1x512 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S6x128x512 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
-- ==== ReferenceIdeal.lean ====
abbrev S1536x1024 : Shape := ⟨2, ![1536, 1024]⟩
abbrev S1024 : Shape := ⟨1, ![1024]⟩
abbrev S_ : Shape := ⟨0, ![]⟩
abbrev S1536 : Shape := ⟨1, ![1536]⟩
abbrev S1536x1 : Shape := ⟨2, ![1536, 1]⟩
abbrev S1x1024 : Shape := ⟨2, ![1, 1024]⟩

abbrev nBuf : Space → Nat
  | .hbm => 21
  | .vmem => 0
  | .smem => 0
  | _ => 0

abbrev bufTy : (tb : Table) → Fin (tcTables nBuf tb) → BufTy
  | .hbm, ⟨0, _⟩ => ⟨S1536x1024, .bf16⟩
  | .hbm, ⟨1, _⟩ => ⟨S1024, .bf16⟩
  | .hbm, ⟨2, _⟩ => ⟨S1536x1024, .f32⟩
  | .hbm, ⟨3, _⟩ => ⟨S1024, .f32⟩
  | .hbm, ⟨4, _⟩ => ⟨S1536x1024, .f32⟩
  | .hbm, ⟨5, _⟩ => ⟨S_, .f32⟩
  | .hbm, ⟨6, _⟩ => ⟨S1536, .f32⟩
  | .hbm, ⟨7, _⟩ => ⟨S1536x1, .f32⟩
  | .hbm, ⟨8, _⟩ => ⟨S_, .f32⟩
  | .hbm, ⟨9, _⟩ => ⟨S1536x1, .f32⟩
  | .hbm, ⟨10, _⟩ => ⟨S1536x1, .f32⟩
  | .hbm, ⟨11, _⟩ => ⟨S_, .f32⟩
  | .hbm, ⟨12, _⟩ => ⟨S1536x1, .f32⟩
  | .hbm, ⟨13, _⟩ => ⟨S1536x1, .f32⟩
  | .hbm, ⟨14, _⟩ => ⟨S1536x1, .f32⟩
  | .hbm, ⟨15, _⟩ => ⟨S1x1024, .f32⟩
  | .hbm, ⟨16, _⟩ => ⟨S1536x1024, .f32⟩
  | .hbm, ⟨17, _⟩ => ⟨S1536x1024, .f32⟩
  | .hbm, ⟨18, _⟩ => ⟨S1536x1024, .f32⟩
  | .hbm, ⟨19, _⟩ => ⟨S1536x1024, .f32⟩
  | .hbm, ⟨20, _⟩ => ⟨S1536x1024, .bf16⟩
  | _, _ => ⟨S1536x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_cst : Ref sig .tc := ⟨.hbm, 5, rfl⟩
abbrev main_v3 : Ref sig .tc := ⟨.hbm, 6, rfl⟩
abbrev main_v4 : Ref sig .tc := ⟨.hbm, 7, rfl⟩
abbrev main_cst_0 : Ref sig .tc := ⟨.hbm, 8, rfl⟩
abbrev main_v5 : Ref sig .tc := ⟨.hbm, 9, rfl⟩
abbrev main_v6 : Ref sig .tc := ⟨.hbm, 10, rfl⟩
abbrev main_cst_1 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_v14 : Ref sig .tc := ⟨.hbm, 19, rfl⟩
abbrev main_v15 : Ref sig .tc := ⟨.hbm, 20, rfl⟩

abbrev nD : Nat := 1
abbrev τ : Topo := Topo.v7x

variable {F : FTy → Type} [FloatOps F]
-- ==== Proof.Slots.lean ====
/-
  The two slots of the kernel's exchange buffer, as sets of elements and as contents.

  The buffer has shape 2 × 6 × 128. A device writes its own partial sums into slot 0 and receives the partial sums of the
  other device of its mesh row in slot 1. The kernel reaches a slot in two ways: through a rectangle of the whole buffer
  (loads and the store), and through the squeezed slice of it (the copy and its two waits). Both ways name the same
  elements, and this file relates what is read and written through them.
-/
module

public import proofs.«01_k».proof.Proof.Gen.KernelIdeal
public import proofs.«01_k».proof.Proof.Gen.KernelIdeal.Skeleton
public import Idealize.ShloMosaic.Lib.Tactic

@[expose] public section

noncomputable section

namespace Cert.Rms

open Idealize.ShloMosaic Idealize.SL.Sem
open Cert.KernelIdeal Cert.KernelIdeal.Gen

variable {F : FTy → Type}

/-- The whole exchange buffer. -/
abbrev xchM : Memref sig .tc .vmem S2x6x128 .f32 := Memref.whole cc0_scratch0

/-- Slot 0 as a rectangle of the exchange buffer. -/
abbrev rect0 : Rect S2x6x128 := Rect.unit (s := S2x6x128) ![0, 0, 0] S1x6x128.size inb_S2x6x128_S1x6x128_0_0_0
/-- Slot 1 as a rectangle of the exchange buffer. -/
abbrev rect1 : Rect S2x6x128 := Rect.unit (s := S2x6x128) ![1, 0, 0] S1x6x128.size inb_S2x6x128_S1x6x128_1_0_0

/-- Slot 0 as the copy names it. -/
abbrev slot0 : Memref sig .tc .vmem S6x128 .f32 := (xchM.slice rect0 (fun _ => rfl)).squeeze S6x128 squeezes_S1x6x128_S6x128
/-- Slot 1 as the copy names it. -/
abbrev slot1 : Memref sig .tc .vmem S6x128 .f32 := (xchM.slice rect1 (fun _ => rfl)).squeeze S6x128 squeezes_S1x6x128_S6x128

/-- The elements of slot 0. -/
theorem slot0_set : slot0.view.set = rect0.set := (View.set_reshape _ _).trans (View.set_slice_whole _ _)
/-- The elements of slot 1. -/
theorem slot1_set : slot1.view.set = rect1.set := (View.set_reshape _ _).trans (View.set_slice_whole _ _)
/-- A load or store at slot 0's rectangle touches slot 0's elements. -/
theorem access0_set : (xchM.access rect0).set = rect0.set := View.set_slice_whole _ _
/-- A load at slot 1's rectangle touches slot 1's elements. -/
theorem access1_set : (xchM.access rect1).set = rect1.set := View.set_slice_whole _ _

/-- The elements of the buffer that a load through a rectangle reads are the rectangle's. -/
theorem xch_setOn (r : Rect S2x6x128) : xchM.view.setOn r.set = r.set := by
  unfold View.setOn; rw [← View.set_slice]; exact View.set_slice_whole _ _

/-- An element lies in slot 0 exactly when its leading coordinate is 0. -/
theorem mem_rect0 (i : S2x6x128.Idx) : i ∈ rect0.set ↔ (i 0).val = 0 := by
  rw [Rect.mem_set_unit]
  constructor
  · intro h; have := h 0; simp at this; omega
  · intro h a
    fin_cases a
    · simp [h]
    · exact ⟨Nat.zero_le _, by simpa using (i 1).isLt⟩
    · exact ⟨Nat.zero_le _, by simpa using (i 2).isLt⟩

/-- An element lies in slot 1 exactly when its leading coordinate is 1. -/
theorem mem_rect1 (i : S2x6x128.Idx) : i ∈ rect1.set ↔ (i 0).val = 1 := by
  rw [Rect.mem_set_unit]
  constructor
  · intro h; have := h 0; simp at this; omega
  · intro h a
    fin_cases a
    · simp [h]
    · exact ⟨Nat.zero_le _, by simpa using (i 1).isLt⟩
    · exact ⟨Nat.zero_le _, by simpa using (i 2).isLt⟩

/-- The slots have no element in common. -/
theorem slots_disjoint : Disjoint rect0.set rect1.set := by
  rw [Finset.disjoint_left]; intro i h0 h1
  rw [mem_rect0] at h0; rw [mem_rect1] at h1; omega

/-- Together the slots are the whole buffer. -/
theorem slots_union : rect0.set ∪ rect1.set = Finset.univ := by
  ext i; simp only [Finset.mem_union, mem_rect0, mem_rect1, Finset.mem_univ, iff_true]
  have : (i 0).val < 2 := (i 0).isLt
  omega

/-- An element of the buffer with its slot forgotten. -/
def flat (i : S2x6x128.Idx) : S1x6x128.Idx := fun
  | 0 => (0 : Fin 1)
  | 1 => (i 1 : Fin 6)
  | 2 => (i 2 : Fin 128)

/-- Contents of the buffer that hold the same partial sums in both slots. -/
def spread (w : S1x6x128.Idx → F .f32) : S2x6x128.Idx → F .f32 := fun i => w (flat i)

/-- Forgetting the slot of an element of slot 0 gives back its place in the slot. -/
theorem flat_rect0 (x : S1x6x128.Idx) : flat (rect0.emb x) = x := by
  funext a; apply Fin.ext
  have h0 : (x 0).val < 1 := (x 0).isLt
  fin_cases a
  · show 0 = (x 0).val; omega
  · show 0 + 1 * (x 1).val = (x 1).val; omega
  · show 0 + 1 * (x 2).val = (x 2).val; omega

/-- Forgetting the slot of an element of slot 1 gives back its place in the slot. -/
theorem flat_rect1 (x : S1x6x128.Idx) : flat (rect1.emb x) = x := by
  funext a; apply Fin.ext
  have h0 : (x 0).val < 1 := (x 0).isLt
  fin_cases a
  · show 0 = (x 0).val; omega
  · show 0 + 1 * (x 1).val = (x 1).val; omega
  · show 0 + 1 * (x 2).val = (x 2).val; omega

/-- Loading slot 0 of contents holding `w` in both slots gives `w`. -/
theorem load0_spread (w : S1x6x128.Idx → F .f32) :
    xchM.view.readAt (Elt F) rect0.toLoadRect (spread (F := F) w) = w := by
  funext x; show w (flat (rect0.emb x)) = w x; rw [flat_rect0]

/-- Loading slot 1 of contents holding `w` in both slots gives `w`. -/
theorem load1_spread (w : S1x6x128.Idx → F .f32) :
    xchM.view.readAt (Elt F) rect1.toLoadRect (spread (F := F) w) = w := by
  funext x; show w (flat (rect1.emb x)) = w x; rw [flat_rect1]

/-- After `w` is stored at slot 0, the elements of slot 0 hold `w`. -/
theorem store0_spread (f : cc0_scratch0.ty.Contents (Elt F)) (w : S1x6x128.Idx → F .f32) (i : S2x6x128.Idx) (hi : i ∈ rect0.set) :
    (xchM.access rect0).write (Elt F) f w Finset.univ i = spread (F := F) w i := by
  rw [← access0_set] at hi
  obtain ⟨x, -, rfl⟩ := Finset.mem_map.mp hi
  rw [View.write_emb_of_mem _ _ (Finset.mem_univ x)]
  show w x = w (flat (rect0.emb x)); rw [flat_rect0]

/-- After slot 0 of a buffer holding `w` is copied into slot 1 of another, the elements of that slot 1 hold `w`. -/
theorem copy_spread (f : cc0_scratch0.ty.Contents (Elt F)) (w : S1x6x128.Idx → F .f32) (i : S2x6x128.Idx) (hi : i ∈ rect1.set) :
    slot1.view.write (Elt F) f (slot0.view.read (Elt F) (spread (F := F) w)) Finset.univ i = spread (F := F) w i := by
  rw [← slot1_set] at hi
  obtain ⟨x, -, rfl⟩ := Finset.mem_map.mp hi
  rw [View.write_emb_of_mem _ _ (Finset.mem_univ x)]
  show w (flat (rect0.emb (Shape.reshapeEquiv squeezes_S1x6x128_S6x128.numel_eq x))) = w (flat (rect1.emb (Shape.reshapeEquiv squeezes_S1x6x128_S6x128.numel_eq x)))
  rw [flat_rect0, flat_rect1]

end Cert.Rms

end
-- ==== Proof.Protocol.lean ====
/-
  The exchange protocol of the RMSNorm kernel, on the four devices of a 2 × 2 mesh.

  Devices 2i and 2i+1 form row i of the mesh. Each of them sums the squares of its half of every row and the two swap
  these partial sums. Per device there are three semaphores:

  * BARRIER. Device c signals its partner's barrier semaphore once, when it enters the kernel, and waits for one unit on
    its own. The unit that c receives hands over slot 1 of the partner's exchange buffer, at contents not named, and the
    knowledge that the partner's RECEIVE semaphore is in use.
  * SEND. Paid by c's own remote copy when the source has been read. It hands back the half share of c's slot 0 that was lent
    to the copy; c keeps the other half, because the kernel reads slot 0 while the copy may still be running.
  * RECEIVE. Paid by the partner's remote copy when it has landed. It hands c its own slot 1, holding the partner's
    partial sums.

  While c waits on its barrier it still owes the partner's receive credit, so barriers lie below receives in the order of waits.

  The protocol is stated for a table `part` of the partial sums of all devices; what these are is settled where the kernel is run.
-/
module

public import proofs.«01_k».proof.Proof.Slots
public import Idealize.ShloMosaic.Lib.Rounds
public import Idealize.ShloMosaic.Lib.Pipeline.Regions
public import Idealize.ShloMosaic.Lib.Pipeline.Kit
public import Idealize.ShloMosaic.Lib.Pipeline.RegionTalk
public import Idealize.ShloMosaic.Lib.StableHlo
public import Idealize.ShloMosaic.PureOps

@[expose] public section

noncomputable section

namespace Cert.Rms

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Cert.KernelIdeal Cert.KernelIdeal.Gen

variable {F : FTy → Type}

/-- The ghost algebra: one copy for the pipelined call's staging cells, one for the exchange. -/
abbrev UU : Type := UR sig nD τ × UR sig nD τ

local notation "𝕄" => MT nD τ sig Unit (Elt F) ℕ UU ℕ

/-- The staging cells' copy. -/
abbrev EP : Emb (UR sig nD τ) (MT nD τ sig Unit (Elt F) ℕ UU ℕ) := embL
/-- The exchange's copy. -/
abbrev ER : Emb (UR sig nD τ) (MT nD τ sig Unit (Elt F) ℕ UU ℕ) := embR

/-! ## Partners -/

/-- The other device of c's mesh row. -/
def peer (c : Dev nD) : Dev nD := ⟨2 * (c.val / 2) + 1 - c.val % 2, by have := c.isLt; simp only [nD] at *; omega⟩

/-- The partner's partner is the device itself. -/
theorem peer_peer (c : Dev nD) : peer (peer c) = c := by revert c; decide
/-- The device the kernel signals is the partner. -/
theorem dev1_eq (c : Dev nD) : (⟨k0_dev1 c, k0_dev1_lt c⟩ : Dev nD) = peer c := Fin.ext (k0_dev1_eq c)
/-- The device the kernel copies to is the partner. -/
theorem dev2_eq (c : Dev nD) : (⟨k0_dev2 c, k0_dev2_lt c⟩ : Dev nD) = peer c := Fin.ext (k0_dev2_eq c)

/-- Partnership as a permutation of the devices. -/
def swap : Dev nD ≃ Dev nD := ⟨peer, peer, peer_peer, peer_peer⟩

/-! ## The three semaphores of a device -/

/-- The barrier semaphore. -/
abbrev barS : Sem sig := (SemArray.scalar (sig.barrier 0 rfl) : Sems sig S_).sem
/-- The semaphore the remote copy signals at its source. -/
abbrev sendS : DmaSem sig := cc0_scratch1.sem
/-- The semaphore the remote copy signals at its destination. -/
abbrev recvS : DmaSem sig := cc0_scratch2.sem

/-- The three semaphores: 0 the barrier, 1 send, 2 receive. -/
abbrev spot : Fin 3 → SemLoc sig := fun | 0 => .reg barS | 1 => .dma sendS | 2 => .dma recvS
/-- Which of the three a semaphore is, if any. -/
def role (s : SemLoc sig) : Option (Fin 3) :=
  if s = spot 0 then some 0 else if s = spot 1 then some 1 else if s = spot 2 then some 2 else none
/-- The three are distinct. -/
theorem role_spot (k : Fin 3) : role (spot k) = some k := by revert k; decide

/-- Semaphore k of device c. -/
abbrev cell (k : Fin 3) (c : Dev nD) : GSem nD τ sig := ((c : Thread nD τ), spot k)

/-- What a copy of one slot credits. -/
def N : ℕ := slot1.view.dmaCredit
/-- A copy credits something. -/
theorem N_pos : 0 < N := View.dmaCredit_pos _ (by decide)
/-- The receive semaphore is credited that much by the copy. -/
theorem amount_slot1 : slot1.view.amount (.dma recvS) = N := rfl
/-- The amount each of the three receives in all. -/
abbrev amt : Fin 3 → ℕ := fun | 0 => 1 | 1 => N | 2 => N

/-! ## What is handed over -/

/-- Device c's slot 0, at share q. -/
def slot0Pts (c : Dev nD) (q : PosShare TreeShare) (f : cc0_scratch0.ty.Contents (Elt F)) : sProp 𝕄 :=
  slot0.view.loc (c : Thread nD τ) ↦[slot0.view.set]{q} f
/-- Device c's slot 1, whole. -/
def slot1Pts (c : Dev nD) (f : cc0_scratch0.ty.Contents (Elt F)) : sProp 𝕄 :=
  slot1.view.loc (c : Thread nD τ) ↦[slot1.view.set]{fullShare} f

variable (part : Dev nD → S1x6x128.Idx → F .f32)

/-- What device c receives with its semaphore k. -/
def pay (c : Dev nD) : Fin 3 → sProp 𝕄
  | 0 => iprop((∃ f, slot1Pts (peer c) f) ∗ reached ER (cell 2 (peer c)) 0)
  | 1 => slot0Pts c fullShare.left (spread (part c))
  | 2 => slot1Pts c (spread (part (peer c)))

instance pay_storable (c : Dev nD) (k : Fin 3) : BI.Storable (upEmb : UEmb _ 𝕄) (pay part c k) := by
  fin_cases k
  · show BI.Storable upEmb iprop((∃ f, slot1Pts (peer c) f) ∗ reached ER (cell 2 (peer c)) 0); unfold slot1Pts; infer_instance
  · show BI.Storable upEmb (slot0Pts c fullShare.left (spread (part c))); unfold slot0Pts; infer_instance
  · show BI.Storable upEmb (slot1Pts c (spread (part (peer c)))); unfold slot1Pts; infer_instance

/-- One duty on each of the three semaphores of each device, in one round. -/
def sched : Rounds.Schedule (GSem nD τ sig) Unit 𝕄 where
  duties g r := if r = 0 ∧ g.1.2 = .tc ∧ (role g.2).isSome then {()} else ∅
  unitless _ := False
  amount g _ _ := (role g.2).elim 1 amt
  payload g _ _ := (role g.2).elim iprop(emp) (pay part g.1.1)
  amount_pos g _ _ _ := by
    rcases role g.2 with _ | k
    · exact Nat.one_pos
    · fin_cases k
      · exact Nat.one_pos
      · exact N_pos
      · exact N_pos

instance sched_storable (g : GSem nD τ sig) (r : ℕ) (d : Unit) : BI.Storable (upEmb : UEmb _ 𝕄) ((sched part).payload g r d) := by
  show BI.Storable upEmb ((role g.2).elim iprop(emp) (pay part g.1.1))
  rcases role g.2 with _ | k
  · show BI.Storable upEmb iprop(emp); infer_instance
  · exact pay_storable part g.1.1 k

section Table
variable (k : Fin 3) (c : Dev nD)

/-- Each of the three has its one duty in round 0. -/
theorem duties_cell : (sched part).duties (cell k c) 0 = {()} := if_pos ⟨rfl, rfl, by rw [role_spot]; rfl⟩
/-- It has it. -/
theorem mem_duties : () ∈ (sched part).duties (cell k c) 0 := by rw [duties_cell]; exact Finset.mem_singleton_self _
/-- No semaphore has a duty after round 0. -/
theorem duties_later (g : GSem nD τ sig) (r : ℕ) (hr : 1 ≤ r) : (sched part).duties g r = ∅ := if_neg fun h => by omega
/-- The amount of the duty. -/
theorem amount_cell (u : Unit) : (sched part).amount (cell k c) 0 u = amt k := by
  show (role (spot k)).elim 1 amt = amt k; rw [role_spot]; rfl
/-- The amount a waiter expects. -/
theorem expect_cell : (sched part).expect (cell k c) 0 = amt k := by
  unfold Schedule.expect Schedule.amountOf; rw [duties_cell, Finset.sum_singleton, amount_cell]
/-- What comes with the duty. -/
theorem payload_cell (u : Unit) : (sched part).payload (cell k c) 0 u = pay part c k := by
  show (role (spot k)).elim iprop(emp) (pay part c) = pay part c k; rw [role_spot]; rfl
/-- What a waiter on a whole round gets. -/
theorem rest_cell : bigSep ((sched part).duties (cell k c) 0 \ ∅) (fun u => (sched part).payload (cell k c) 0 u) = pay part c k := by
  rw [Finset.sdiff_empty, duties_cell, bigSep_singleton, payload_cell]

end Table

/-! ## Debts and the order of waits -/

/-- What a device owes from the start: its partner's receive credit and its partner's barrier unit. -/
def O₀ (c : Dev nD) : CellTallies nD τ sig Unit := tallyAt (cell 2 (peer c)) () N + tallyAt (cell 0 (peer c)) () 1

/-- Every semaphore of a TensorCore carries the one label. -/
def L (g : GSem nD τ sig) : Finset Unit := if g.1.2 = .tc then {()} else ∅
/-- Barriers at 1, receives at 2, the rest at 0. -/
def lv (g : GSem nD τ sig) (_ : Unit) : ℕ := (role g.2).elim 0 fun | 0 => 1 | 1 => 0 | 2 => 2

theorem L_of_ne (g : GSem nD τ sig) (h : g.1.2 ≠ .tc) : L g = ∅ := if_neg h
theorem mem_L (c : Dev nD) (s : SemLoc sig) : () ∈ L ((c : Thread nD τ), s) := by
  rw [show L ((c : Thread nD τ), s) = {()} from if_pos rfl]; exact Finset.mem_singleton_self _
theorem lv_bar (c : Dev nD) : lv (cell 0 c) () = 1 := by show (role (spot 0)).elim 0 _ = 1; rw [role_spot]; rfl
theorem lv_recv (c : Dev nD) : lv (cell 2 c) () = 2 := by show (role (spot 2)).elim 0 _ = 2; rw [role_spot]; rfl

/-- A tally at one place is positive only there. -/
theorem tally_pos {g g' : GSem nD τ sig} {n : ℕ} {u : Unit} (h : 0 < tallyAt g () n g' u) : g' = g := by
  rw [tallyAt_apply] at h
  by_contra hne
  rw [if_neg fun h' => hne h'.1] at h
  exact Nat.lt_irrefl 0 h

/-- What a device owes from the start lies on its partner's receive and barrier. -/
theorem O₀_pos {c : Dev nD} {g : GSem nD τ sig} {u : Unit} (h : 0 < O₀ c g u) : g = cell 2 (peer c) ∨ g = cell 0 (peer c) := by
  unfold O₀ at h
  rw [Pi.add_apply, Finsupp.add_apply] at h
  exact (Nat.add_pos_iff_pos_or_pos.mp h).imp tally_pos tally_pos

/-- Debts of the start lie above level 0. -/
theorem O₀_above {c : Dev nD} {g : GSem nD τ sig} {u : Unit} (h : 0 < O₀ c g u) : u ∈ L g ∧ 0 < lv g u := by
  rcases O₀_pos h with rfl | rfl
  · exact ⟨mem_L _ _, by rw [lv_recv]; decide⟩
  · exact ⟨mem_L _ _, by rw [lv_bar]; decide⟩

/-- A device may wait on its barrier while it owes its partner's receive credit. -/
theorem mayWait_bar (c : Dev nD) :
    (levAts L lv : sProp 𝕄) ⊢ MayWait (c : Thread nD τ) (.reg barS) () (tallyAt (cell 2 (peer c)) () N) :=
  MayOwe.of_cut (L := L) (lev := lv) 1 (fun p hp => by rw [Finset.mem_singleton.mp hp]; exact mem_L _ _)
    (fun g u hg => by rw [tally_pos hg]; exact mem_L _ _)
    (fun p hp => by rw [Finset.mem_singleton.mp hp]; exact (lv_bar c).le)
    (fun g u hg => by rw [tally_pos hg, lv_recv]; decide)

/-! ## What a device carries -/

/-- The invariants device c uses, at the names K: its own three, and its partner's barrier and receive. -/
def invs (K : GSem nD τ sig → ℕ) (c : Dev nD) : sProp 𝕄 :=
  iprop(cellInv ER (sched part) (K (cell 0 c)) (cell 0 c) ∗ cellInv ER (sched part) (K (cell 1 c)) (cell 1 c)
    ∗ cellInv ER (sched part) (K (cell 2 c)) (cell 2 c)
    ∗ cellInv ER (sched part) (K (cell 0 (peer c))) (cell 0 (peer c)) ∗ cellInv ER (sched part) (K (cell 2 (peer c))) (cell 2 (peer c)))

instance invs_persistent (K : GSem nD τ sig → ℕ) (c : Dev nD) : BI.Persistent (invs part K c) := by unfold invs; infer_instance

/-- The rights to pay: the partner's barrier, the partner's receive, the own send. -/
def tokens (c : Dev nD) : sProp 𝕄 :=
  iprop(dutyTok ER (cell 0 (peer c)) 0 () ∗ dutyTok ER (cell 2 (peer c)) 0 () ∗ dutyTok ER (cell 1 c) 0 ())

/-- What device c carries from the launch to the kernel: its place on its barrier, the rights to open its send and receive
    semaphores (whose counters the launch does not hold), and the rights to pay. -/
def ghost (K : GSem nD τ sig → ℕ) (c : Dev nD) : sProp 𝕄 :=
  iprop(invs part K c ∗ atPos ER (cell 0 c) 0 ∅ 0 ∗ openTok ER (cell 1 c) ∗ openTok ER (cell 2 c) ∗ reached ER (cell 0 (peer c)) 0 ∗ tokens c)

/-- The same once its send and receive semaphores are open. -/
def opened (K : GSem nD τ sig → ℕ) (c : Dev nD) : sProp 𝕄 :=
  iprop(invs part K c ∗ atPos ER (cell 0 c) 0 ∅ 0 ∗ atPos ER (cell 1 c) 0 ∅ 0 ∗ atPos ER (cell 2 c) 0 ∅ 0
    ∗ reached ER (cell 0 (peer c)) 0 ∗ reached ER (cell 1 c) 0 ∗ reached ER (cell 2 c) 0 ∗ tokens c)

/-- A semaphore whose round is over gives its counter back, at zero. -/
theorem close (κ : ℕ) (g : GSem nD τ sig) :
    iprop(cellInv ER (sched part) κ g ∗ atPos ER g (0 + 1) ∅ 0) ⊢ (|={Set.univ}=> semVal g 0 : sProp 𝕄) :=
  Rounds.cell_close ER (sched part) (Set.mem_univ κ) id (duties_later part g)

/-- The exchange buffer whole is its two slots. -/
theorem xch_split (c : Dev nD) (f : cc0_scratch0.ty.Contents (Elt F)) :
    (((c : Thread nD τ).loc cc0_scratch0) ↦{fullShare} f : sProp 𝕄) ⊢ iprop(slot0Pts c fullShare f ∗ slot1Pts c f) := by
  unfold slot0Pts slot1Pts
  rw [slot0_set, slot1_set, ← slots_union]
  exact (pointsTo_union slots_disjoint).1

/-- The two slots make the exchange buffer whole, at some contents. -/
theorem xch_join (c : Dev nD) (f g : cc0_scratch0.ty.Contents (Elt F)) :
    iprop(slot0Pts c fullShare f ∗ slot1Pts c g) ⊢ (∃ h, (((c : Thread nD τ).loc cc0_scratch0) ↦{fullShare} h) : sProp 𝕄) := by
  unfold slot0Pts slot1Pts
  rw [slot0_set, slot1_set, ← slots_union]
  refine (pointsTo_join slots_disjoint).trans ?_
  iintro H; iexists _; iexact H

/-- Slot 0 in two half shares. -/
theorem slot0_halves (c : Dev nD) (f : cc0_scratch0.ty.Contents (Elt F)) :
    (slot0Pts c fullShare f : sProp 𝕄) ⊣⊢ iprop(slot0Pts c fullShare.left f ∗ slot0Pts c fullShare.right f) :=
  pointsTo_share (PosShare.mem_left_op_right fullShare)

end Cert.Rms

end
-- ==== Proof.Body.lean ====
/-
  One run of the kernel's body, on a symbolic device, for any float carrier.

  Device c holds its block of x and its block of gamma staged in VMEM, the exchange buffer, and what the protocol lets it carry.
  The run ends with the three counters back at zero and with the result block computed from its own partial sums and its partner's.
-/
module

public import proofs.«01_k».proof.Proof.Protocol

@[expose] public section

noncomputable section

namespace Cert.Rms

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Cert.KernelIdeal Cert.KernelIdeal.Gen

variable {F : FTy → Type} [FloatOps F]

local notation "𝕄" => MT nD τ sig Unit (Elt F) ℕ UU ℕ

/-- The contract of no label is used. -/
abbrev 𝒱₀ : Variants := Variants.none

/-! ## Loads and stores of whole staged blocks -/

/-- The whole block of x, or of the result, as a rectangle. -/
abbrev rectX : Rect S6x128x512 := Rect.unit (s := S6x128x512) ![0, 0, 0] S6x128x512.size inb_S6x128x512_S6x128x512_0_0_0
/-- The whole block of gamma as a rectangle. -/
abbrev rectG : Rect S1x1x512 := Rect.unit (s := S1x1x512) ![0, 0, 0] S1x1x512.size inb_S1x1x512_S1x1x512_0_0_0

theorem zero3 : (![0, 0, 0] : Fin 3 → Nat) = fun _ => 0 := funext fun a => by fin_cases a <;> rfl

/-- Loading the whole block of x reads it. -/
theorem load_x (f : cc0_stg0_0.ty.Contents (Elt F)) :
    (Memref.whole cc0_stg0_0 : Memref sig .tc .vmem S6x128x512 .bf16).view.readAt (Elt F) rectX.toLoadRect f = f :=
  Memref.readAt_unit_zero (Elt F) cc0_stg0_0 zero3 _ f
/-- Loading the whole block of gamma reads it. -/
theorem load_g (f : cc0_stg1_0.ty.Contents (Elt F)) :
    (Memref.whole cc0_stg1_0 : Memref sig .tc .vmem S1x1x512 .bf16).view.readAt (Elt F) rectG.toLoadRect f = f :=
  Memref.readAt_unit_zero (Elt F) cc0_stg1_0 zero3 _ f
/-- Loading the whole result block reads it. -/
theorem load_o (f : cc0_stg2_0.ty.Contents (Elt F)) :
    (Memref.whole cc0_stg2_0 : Memref sig .tc .vmem S6x128x512 .bf16).view.readAt (Elt F) rectX.toLoadRect f = f :=
  Memref.readAt_unit_zero (Elt F) cc0_stg2_0 zero3 _ f
/-- Storing the whole result block replaces it. -/
theorem store_o (f w : cc0_stg2_0.ty.Contents (Elt F)) :
    ((Memref.whole cc0_stg2_0 : Memref sig .tc .vmem S6x128x512 .bf16).access rectX).write (Elt F) f w Finset.univ = w :=
  Memref.write_access_unit_zero_univ (Elt F) cc0_stg2_0 zero3 _ f w

/-! ## What is computed -/

variable (X : Dev nD → cc0_stg0_0.ty.Contents (Elt F)) (G : Dev nD → cc0_stg1_0.ty.Contents (Elt F))

/-- The sums of squares of each device's block, row by row. -/
def partOf (c : Dev nD) : S1x6x128.Idx → F .f32 := k0_pay2 (F := F) (X c)
/-- The result block of each device. -/
def outOf (c : Dev nD) : cc0_stg2_0.ty.Contents (Elt F) :=
  k0_pay4 (F := F) (partOf X c) (partOf X (peer c)) (k0_pay3 (F := F) (k0_pay1 (F := F) (X c)) (G c))

/-! ## The remote copy -/

section Send
variable (part : Dev nD → S1x6x128.Idx → F .f32) (K : GSem nD τ sig → ℕ)

/-- The copy of slot 0 into the partner's slot 1: it is paid with both duties, takes the lent half of slot 0 and the partner's
    slot 1, and leaves nothing owed. -/
theorem wp_exchange (c n : Dev nD) (hn : n = peer c)
    {hsc : (slot1 : Memref sig (Dev.tc n : Thread nD τ).2.kind .vmem S6x128 .f32).view.ref.isScScratch = false}
    {hsrc : slot0.view.WordExact} {hdst : (slot1 : Memref sig (Dev.tc n : Thread nD τ).2.kind .vmem S6x128 .f32).view.WordExact}
    {hsem : DmaTarget.Typed .vmem (.dma recvS) (.remote (Dev.tc n : Thread nD τ) (slot1 : Memref sig .tc .vmem S6x128 .f32) (.dma sendS) hsc)}
    {α : Type} {Q : α → sProp 𝕄} {k : PUnit → Prog (TpuEff nD τ sig (Elt F) Λ₀ .tc) α}
    (f : cc0_scratch0.ty.Contents (Elt F)) (W : Waits sig Unit) :
    iprop(cellInv ER (sched part) (K (cell 1 c)) (cell 1 c) ∗ cellInv ER (sched part) (K (cell 2 (peer c))) (cell 2 (peer c))
        ∗ slot0Pts c fullShare.left (spread (part c)) ∗ slot1Pts (peer c) f ∗ owes (c : Thread nD τ) (tallyAt (cell 2 (peer c)) () N) W
        ∗ dutyTok ER (cell 1 c) 0 () ∗ reached ER (cell 1 c) 0 ∗ dutyTok ER (cell 2 (peer c)) 0 () ∗ reached ER (cell 2 (peer c)) 0)
      ⊢ iprop(((cred (tallyAt (cell 1 c) () N) ∗ owes (c : Thread nD τ) 0 W) -∗ wp frame (wpE (defs₀ (F := F)) 𝒱₀ (c : Thread nD τ) none) Set.univ (k ⟨⟩) Q)
          -∗ wp frame (wpE (defs₀ (F := F)) 𝒱₀ (c : Thread nD τ) none) Set.univ
              (.op (.enqueueDma slot0 (.remote (Dev.tc n : Thread nD τ) slot1 (.dma sendS) hsc) (.dma recvS) hsrc hdst hsem) k) Q) := by
  subst hn
  have hk1 : (sched part).amount ((c : Thread nD τ), .dma sendS) 0 () = N := amount_cell part 1 c ()
  have hk2 : (sched part).amount ((peer c : Thread nD τ), .dma recvS) 0 () = N := amount_cell part 2 (peer c) ()
  have hd1 : () ∈ (sched part).duties ((c : Thread nD τ), .dma sendS) 0 := mem_duties part 1 c
  have hd2 : () ∈ (sched part).duties ((peer c : Thread nD τ), .dma recvS) 0 := mem_duties part 2 (peer c)
  have hp1 : (slot0.view.loc (c : Thread nD τ) ↦[slot0.view.set]{fullShare.left} spread (part c) : sProp 𝕄)
      ⊢ (sched part).payload ((c : Thread nD τ), .dma sendS) 0 () :=
    Entails.of_eq (payload_cell part 1 c ()).symm
  have hp2 : (slot1.view.loc (peer c : Thread nD τ) ↦[slot1.view.set]{fullShare}
        (slot1.view.write (Elt F) f (slot0.view.read (Elt F) (spread (part c))) Finset.univ) : sProp 𝕄)
      ⊢ (sched part).payload ((peer c : Thread nD τ), .dma recvS) 0 () := by
    rw [show (sched part).payload ((peer c : Thread nD τ), .dma recvS) 0 () = pay part (peer c) 2 from payload_cell part 2 (peer c) ()]
    unfold pay slot1Pts; rw [peer_peer]
    exact Entails.of_eq (pointsTo_congr fun i hi => copy_spread f (part c) i (by rw [← slot1_set]; exact hi))
  unfold slot0Pts slot1Pts
  exact Rounds.wp_send_pointsTo 𝒱₀ ER (sched part) (c : Thread nD τ) none (c' := (peer c : Thread nD τ)) (src := slot0) (dst := slot1)
    (hsc := hsc) (sS := .dma sendS) (sem := .dma recvS) (hsrc := hsrc) (hdst := hdst) (hsem := hsem) (q := fullShare.left) (fs := spread (part c))
    (κ₁ := K (cell 1 c)) (κ₂ := K (cell 2 (peer c))) (r₁ := 0) (r₂ := 0) (d₁ := ()) (d₂ := ()) (fd := f) hd1 hd2 () () N amount_slot1 hk1 hk2 0 (by rw [zero_add]) (W := W) hp1 hp2

end Send

/-! ## The body -/

/-- The part of a staged buffer's ownership the body needs. -/
abbrev held (c : Dev nD) (b : Ref sig .tc) (f : b.ty.Contents (Elt F)) : sProp 𝕄 := ((c : Thread nD τ).loc b) ↦{fullShare} f

/-- What the body starts from. -/
def bodyPre (K : GSem nD τ sig → ℕ) (c : Dev nD) (W : Waits sig Unit) : sProp 𝕄 :=
  iprop(opened (partOf X) K c ∗ cred (tallyAt (cell 0 c) () 1) ∗ cred (tallyAt (cell 2 c) () N) ∗ levAts L lv
    ∗ (∃ f, held c cc0_scratch0 f) ∗ held c cc0_stg0_0 (X c) ∗ held c cc0_stg1_0 (G c) ∗ (∃ f, held c cc0_stg2_0 f)
    ∗ owes (c : Thread nD τ) (O₀ c) W)

/-- What the body ends with. -/
def bodyPost (c : Dev nD) : sProp 𝕄 :=
  iprop(semVal (cell 0 c) 0 ∗ semVal (cell 1 c) 0 ∗ semVal (cell 2 c) 0
    ∗ (∃ f, held c cc0_scratch0 f) ∗ held c cc0_stg0_0 (X c) ∗ held c cc0_stg1_0 (G c) ∗ held c cc0_stg2_0 (outOf X G c)
    ∗ ∃ W, owes (c : Thread nD τ) (0 : CellTallies nD τ sig Unit) W)

/-- After the partial sums are stored, slot 0 holds them. -/
theorem slot0_stored (c : Dev nD) (f : cc0_scratch0.ty.Contents (Elt F)) :
    ((xchM.access rect0).loc (c : Thread nD τ) ↦[slot0.view.set]{fullShare} (xchM.access rect0).write (Elt F) f (k0_pay2 (F := F) (X c)) Finset.univ : sProp 𝕄)
      = slot0Pts c fullShare (spread (partOf X c)) :=
  pointsTo_congr fun i hi => store0_spread f _ i (by rw [← slot0_set]; exact hi)

set_option maxHeartbeats 1600000 in
/-- The body, run once. -/
theorem body_run (K : GSem nD τ sig → ℕ) (c : Dev nD) (W : Waits sig Unit) (Kt : PUnit → sProp 𝕄) :
    iprop(bodyPre X G K c W ∗ (bodyPost X G c -∗ Kt ⟨⟩))
      ⊢ wp frame (wpE (defs₀ (F := F)) 𝒱₀ c none) Set.univ
          (cc0_body (F := F) (Memref.whole cc0_stg0_0) (Memref.isWhole_whole _) (Memref.whole cc0_stg1_0) (Memref.isWhole_whole _)
            (Memref.whole cc0_stg2_0) (Memref.isWhole_whole _) (Memref.whole cc0_scratch0) (Memref.isWhole_whole _) cc0_scratch1 cc0_scratch2) Kt := by
  simp only [cc0_body_eq_skeleton]; unfold cc0_body_skel
  simp only [k0_part1_eq_skeleton, k0_part2_eq_skeleton]; unfold k0_part1_skel k0_part2_skel
  simp only [semSignalWord, semWaitWord, Prog.lift, Prog.bind_op, Prog.bind_ret, Prog.pure_eq_ret, wp_deviceId]
  unfold bodyPre opened invs tokens
  iintro ⟨⟨⟨⟨#HIb, #HIs, #HIr, #HIbP, #HIrP⟩, HaB, HaS, HaR, #HrbP, #Hrs, #Hrr, HtB, HtR, HtS⟩, HcB, HcR, #Hlev, ⟨%f0, Hxch⟩, Hx, Hg, ⟨%fo, Ho⟩, HO⟩, Hk⟩
  simp only [dev1_eq c]
  ihave Hsl := (xch_split c f0) $$ Hxch
  icases Hsl with ⟨H0, H1⟩
  -- the signal: slot 1 goes to the partner
  iapply (Rounds.wp_signal 𝒱₀ ER (sched (partOf X)) (c : Thread nD τ) none (dst := (peer c : Thread nD τ)) (sem := barS) (r := 0) (d := ())
      (κ := K (cell 0 (peer c))) (mem_duties (partOf X) 0 (peer c)) ((amount_cell (partOf X) 0 (peer c) ()).trans (by decide)) ()
      (tallyAt (cell 2 (peer c)) () N) rfl) $$ [HO HtB H1]
  · isplitr; · iexact HIbP
    isplitl [HO]; · iexact HO
    isplitl [HtB]; · iexact HtB
    isplitl [H1]
    · rw [payload_cell (partOf X) 0 (peer c)]; unfold pay; rw [peer_peer]
      isplitl [H1]; · iexists f0; iexact H1
      iexact Hrr
    · iexact HrbP
  iintro HO
  -- the own block of x, its partial sums into slot 0
  iapply (wp_load 𝒱₀ (c : Thread nD τ) none Set.univ (m := (Memref.whole cc0_stg0_0 : Memref sig .tc .vmem S6x128x512 .bf16)) (Finset.subset_univ _)) $$ Hx; iintro Hx
  rw [load_x]
  unfold slot0Pts
  iapply (wp_load 𝒱₀ (c : Thread nD τ) none Set.univ (m := xchM) (r := rect0.toLoadRect) (by rw [slot0_set]; exact (xch_setOn rect0).le)) $$ H0; iintro H0
  iapply (wp_store 𝒱₀ (c : Thread nD τ) none Set.univ (m := xchM) (r := rect0) (Mk := Finset.univ) (by rw [View.setOn_univ, slot0_set]; exact (access0_set).le)) $$ H0; iintro H0
  -- slot 0 now holds the partial sums; half of it is lent to the copy
  ihave H0 := (Entails.of_eq (slot0_stored X c f0)) $$ H0
  ihave H0 := (slot0_halves c (spread (partOf X c))).1 $$ H0
  icases H0 with ⟨H0l, H0r⟩
  -- the wait on the own barrier: the partner's slot 1 arrives
  iapply (Rounds.wp_wait_rest_token 𝒱₀ ER (sched (partOf X)) (c : Thread nD τ) none (κ := K (cell 0 c))
      (wpE_semWait_eq 𝒱₀ (c : Thread nD τ) none Set.univ) (Set.mem_univ _) () (O := tallyAt (cell 2 (peer c)) () N) (W := W) (R := 0) (m := 0) (T := ∅)
      (by rw [expect_cell (partOf X) 0 c]; decide)) $$ [HcB HO HaB]
  · isplitr; · iexact HIb
    isplitl [HcB]; · iexact HcB
    isplitl [HO]; · iexact HO
    isplitr; · iapply (mayWait_bar c); iexact Hlev
    iexact HaB
  iintro ⟨HO, HaB, -, Hpay⟩
  ihave Hp := (Entails.of_eq (rest_cell (partOf X) 0 c)) $$ Hpay
  simp only [pay]
  icases Hp with ⟨⟨%fn, H1p⟩, #HrrP⟩
  -- the copy
  iapply (wp_exchange (partOf X) K c _ (dev2_eq c) fn (insert (SemLoc.reg barS, ()) W)) $$ [H0l H1p HO HtS HtR]
  · isplitr; · iexact HIs
    isplitr; · iexact HIrP
    isplitl [H0l]; · iexact H0l
    isplitl [H1p]; · iexact H1p
    isplitl [HO]; · iexact HO
    isplitl [HtS]; · iexact HtS
    isplitr; · iexact Hrs
    isplitl [HtR]; · iexact HtR
    iexact HrrP
  iintro ⟨HcS, HO⟩
  -- the block scaled by gamma, while the copy may be running
  iapply (wp_load 𝒱₀ (c : Thread nD τ) none Set.univ (m := (Memref.whole cc0_stg1_0 : Memref sig .tc .vmem S1x1x512 .bf16)) (Finset.subset_univ _)) $$ Hg; iintro Hg
  rw [load_g]
  iapply (wp_load 𝒱₀ (c : Thread nD τ) none Set.univ (m := (Memref.whole cc0_stg2_0 : Memref sig .tc .vmem S6x128x512 .bf16)) (Finset.subset_univ _)) $$ Ho; iintro Ho
  iapply (wp_store 𝒱₀ (c : Thread nD τ) none Set.univ (m := (Memref.whole cc0_stg2_0 : Memref sig .tc .vmem S6x128x512 .bf16)) (r := rectX) (Mk := Finset.univ) (Finset.subset_univ _)) $$ Ho; iintro Ho
  rw [store_o]
  -- the wait for the partner's partial sums
  iapply (Rounds.wp_wait_rest_token 𝒱₀ ER (sched (partOf X)) (c : Thread nD τ) none (κ := K (cell 2 c))
      (wpE_waitDma2_eq 𝒱₀ (c : Thread nD τ) none Set.univ) (Set.mem_univ _) () (O := 0)
      (W := insert (SemLoc.reg barS, ()) W) (R := 0) (m := 0) (T := ∅)
      (by rw [Nat.zero_add, expect_cell (partOf X) 2 c]; rfl)) $$ [HcR HO HaR]
  · isplitr; · iexact HIr
    isplitl [HcR]; · iexact HcR
    isplitl [HO]; · iexact HO
    isplitr; · rw [MayWait_zero]; iempintro
    iexact HaR
  iintro ⟨HO, HaR, -, Hpay⟩
  ihave H1 := (Entails.of_eq (rest_cell (partOf X) 2 c)) $$ Hpay
  simp only [pay]
  unfold slot0Pts slot1Pts
  iapply (wp_load 𝒱₀ (c : Thread nD τ) none Set.univ (m := xchM) (r := rect0.toLoadRect) (by rw [slot0_set]; exact (xch_setOn rect0).le)) $$ H0r; iintro H0r
  rw [load0_spread]
  iapply (wp_load 𝒱₀ (c : Thread nD τ) none Set.univ (m := xchM) (r := rect1.toLoadRect) (by rw [slot1_set]; exact (xch_setOn rect1).le)) $$ H1; iintro H1
  rw [load1_spread]
  -- the scaled block normalised
  iapply (wp_load 𝒱₀ (c : Thread nD τ) none Set.univ (m := (Memref.whole cc0_stg2_0 : Memref sig .tc .vmem S6x128x512 .bf16)) (Finset.subset_univ _)) $$ Ho; iintro Ho
  rw [load_o]
  iapply (wp_load 𝒱₀ (c : Thread nD τ) none Set.univ (m := (Memref.whole cc0_stg2_0 : Memref sig .tc .vmem S6x128x512 .bf16)) (Finset.subset_univ _)) $$ Ho; iintro Ho
  iapply (wp_store 𝒱₀ (c : Thread nD τ) none Set.univ (m := (Memref.whole cc0_stg2_0 : Memref sig .tc .vmem S6x128x512 .bf16)) (r := rectX) (Mk := Finset.univ) (Finset.subset_univ _)) $$ Ho; iintro Ho
  rw [store_o]
  -- the wait for the own copy: the lent half of slot 0 comes back
  iapply (Rounds.wp_wait_rest_token 𝒱₀ ER (sched (partOf X)) (c : Thread nD τ) none (κ := K (cell 1 c))
      (wpE_waitDma2_eq 𝒱₀ (c : Thread nD τ) none Set.univ) (Set.mem_univ _) () (O := 0)
      (W := insert (SemLoc.dma recvS, ()) (insert (SemLoc.reg barS, ()) W)) (R := 0) (m := 0) (T := ∅)
      (by rw [Nat.zero_add, expect_cell (partOf X) 1 c]; rfl)) $$ [HcS HO HaS]
  · isplitr; · iexact HIs
    isplitl [HcS]; · iexact HcS
    isplitl [HO]; · iexact HO
    isplitr; · rw [MayWait_zero]; iempintro
    iexact HaS
  iintro ⟨HO, HaS, -, Hpay⟩
  ihave H0l := (Entails.of_eq (rest_cell (partOf X) 1 c)) $$ Hpay
  simp only [pay]
  rw [wp_ret]
  imod (close (partOf X) (K (cell 0 c)) (cell 0 c)) $$ [HaB] with Hb0
  · isplitr; · iexact HIb
    iexact HaB
  imod (close (partOf X) (K (cell 1 c)) (cell 1 c)) $$ [HaS] with Hs0
  · isplitr; · iexact HIs
    iexact HaS
  imod (close (partOf X) (K (cell 2 c)) (cell 2 c)) $$ [HaR] with Hr0
  · isplitr; · iexact HIr
    iexact HaR
  imodintro
  iapply Hk
  unfold bodyPost
  isplitl [Hb0]; · iexact Hb0
  isplitl [Hs0]; · iexact Hs0
  isplitl [Hr0]; · iexact Hr0
  isplitl [H0l H0r H1]
  · iapply (xch_join c (spread (partOf X c)) (spread (partOf X (peer c))))
    isplitl [H0l H0r]
    · iapply (slot0_halves c (spread (partOf X c))).2
      isplitl [H0l]; · iexact H0l
      unfold slot0Pts; iexact H0r
    · unfold slot1Pts; iexact H1
  isplitl [Hx]; · iexact Hx
  isplitl [Hg]; · iexact Hg
  isplitl [Ho]; · iexact Ho
  iexists _; iexact HO

end Cert.Rms

end
-- ==== Proof.Region.lean ====
/-
  The kernel call between the host's reshapes, as the launch sees it.

  The host reshapes each device's block of x to 6 × 128 × 512 and its block of gamma to 1 × 1 × 512, calls the kernel, and
  reshapes the result back to 768 × 512. The call stages the two operands whole, runs the body once, and writes the result
  back whole. Here: what every buffer holds before, between and after these steps, and the call as one step that takes in
  the launch's share of the exchange protocol and gives back the barrier's counter at zero.
-/
module

public import proofs.«01_k».proof.Proof.Body
public import proofs.«01_k».proof.Proof.Gen.KernelIdeal.Launch
public import proofs.«01_k».proof.Proof.Gen.KernelIdeal.Points
public import proofs.«01_k».proof.Proof.Gen.KernelIdeal.Frame
public import Idealize.ShloMosaic.Lib.Pipeline.ValueKit

@[expose] public section

noncomputable section

namespace Cert.Rms

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat BodyObligation)
open Cert.KernelIdeal Cert.KernelIdeal.Gen

variable {F : FTy → Type} [FloatOps F]

local notation "𝕄" => MT nD τ sig Unit (Elt F) ℕ UU ℕ

variable (m : (ℓ : Loc nD τ sig) → Buf (Elt F) ℓ)

/-! ## What the buffers hold -/

/-- At the start. -/
abbrev V₀ (c : Dev nD) : Valuation τ sig (Elt F) := fun b => m (c, b)
/-- When the kernel is called. -/
abbrev V₁ (c : Dev nD) : Valuation τ sig (Elt F) := StableHlo.after hostOps0 (V₀ m c)
/-- Each device's block of x, as the kernel is given it. -/
def xs (c : Dev nD) : cc0_stg0_0.ty.Contents (Elt F) := V₁ m c (Proc.devRef .tc main_v1)
/-- Each device's block of gamma, as the kernel is given it. -/
def gs (c : Dev nD) : cc0_stg1_0.ty.Contents (Elt F) := V₁ m c (Proc.devRef .tc main_v2)
/-- Each device's block of the result, as the kernel leaves it. -/
def ys (c : Dev nD) : main_v3.ty.Contents (Elt F) := outOf (xs m) (gs m) c
/-- When the kernel has returned. -/
abbrev V₂ (c : Dev nD) : Valuation τ sig (Elt F) := Function.update (V₁ m c) (Proc.devRef .tc main_v3) (ys m c)
/-- At the end. -/
abbrev V₃ (c : Dev nD) : Valuation τ sig (Elt F) := StableHlo.after hostOps1 (V₂ m c)

/-- What the kernel does not write is as it found it. -/
theorem V₂_ne (c : Dev nD) (b : Ref sig .tc) (h : b ≠ main_v3) : V₂ m c (Proc.devRef .tc b) = V₁ m c (Proc.devRef .tc b) :=
  Function.update_of_ne (StableHlo.devRef_ne_of_ne h) _ _

/-- The kernel's result. -/
theorem V₂_self (c : Dev nD) : V₂ m c (Proc.devRef .tc main_v3) = ys m c := Function.update_self _ _ _

/-- The first reshapes write neither argument. -/
theorem V₁_arg0 (c : Dev nD) : V₁ m c (Proc.devRef .tc main_arg0) = m ((c : Thread nD τ).loc main_arg0) := V_main_arg0 m c
/-- The first reshapes write neither argument. -/
theorem V₁_arg1 (c : Dev nD) : V₁ m c (Proc.devRef .tc main_arg1) = m ((c : Thread nD τ).loc main_arg1) := V_main_arg1 m c

/-- The last reshape writes only the result. -/
theorem V₃_ne (c : Dev nD) (b : Ref sig .tc) (h : b ≠ main_v4) : V₃ m c (Proc.devRef .tc b) = V₂ m c (Proc.devRef .tc b) :=
  StableHlo.after_of_forall_not_mem (b := Proc.devRef .tc b) _ _ (List.forall_iff_forall_mem.mp (by
    simp only [hostOps1, List.Forall, StableHlo.reshape_writes, Finset.mem_singleton]
    exact StableHlo.devRef_ne_of_ne h))

/-- The block of x ends as it started. -/
theorem V₃_arg0 (c : Dev nD) : V₃ m c (Proc.devRef .tc main_arg0) = m ((c : Thread nD τ).loc main_arg0) :=
  (V₃_ne m c _ (by decide)).trans ((V₂_ne m c _ (by decide)).trans (V₁_arg0 m c))
/-- The block of gamma ends as it started. -/
theorem V₃_arg1 (c : Dev nD) : V₃ m c (Proc.devRef .tc main_arg1) = m ((c : Thread nD τ).loc main_arg1) :=
  (V₃_ne m c _ (by decide)).trans ((V₂_ne m c _ (by decide)).trans (V₁_arg1 m c))

/-! ## The call's data -/

/-- What the call's step needs beside the staged operands when it starts. -/
def Xk (c : Dev nD) : sProp 𝕄 :=
  iprop((∃ K, opened (partOf (xs m)) K c) ∗ cred (tallyAt (cell 0 c) () 1) ∗ cred (tallyAt (cell 2 c) () N) ∗ levAts L lv)
/-- The exchange buffer, at contents not named. -/
def xchAny (c : Dev nD) : sProp 𝕄 := iprop(∃ f : Buf (Elt F) ((c : Thread nD τ).loc cc0_scratch0), ((c : Thread nD τ).loc cc0_scratch0) ↦{fullShare} f)

/-- The call: its arrays as found, what the body leaves in the staging buffers, and what it takes in and gives back. -/
def dat0 (c : Dev nD) : Dat τ (Elt F) Unit ℕ UU ℕ cfg0 c where
  A w := V₁ m c (Proc.devRef .tc (Pipeline.arrRef spec0 w))
  after w _ := match w with
    | ⟨0, _⟩ => xs m c
    | ⟨1, _⟩ => gs m c
    | ⟨2, _⟩ => ys m c
    | ⟨n + 3, h⟩ => absurd h (Nat.not_lt.2 (Nat.le_add_left _ _))
  Φ t := if t.val = 0 then iprop(Xk m c ∗ xchAny c ∗ ∃ r, prngReg c r)
    else iprop(semVal (cell 0 c) 0 ∗ (semVal (cell 1 c) 0 ∗ semVal (cell 2 c) 0) ∗ xchAny c ∗ ∃ r, prngReg c r)
  q _ := fullShare
  owed t := if t.val = 0 then O₀ c else 0

/-- The one way to prefetch nothing. -/
abbrev adm : (p : Fin 1) → (pcfgs (F := F) p).Adm := fun p => (cfgs p).toPCfg_adm
/-- The data of the program's one call. -/
def pdats : (p : Fin 1) → (c : Dev nD) → Dat τ (Elt F) Unit ℕ UU ℕ (Pipeline.pin (pcfgs (F := F)) adm p) c
  | 0 => dat0 m

theorem owed_zero (c : Dev nD) : (pdats m 0 c).owed 0 = O₀ c := by
  show (if ((0 : Fin (cfg0.N + 1)).val = 0) then O₀ c else 0) = O₀ c; exact if_pos rfl
theorem owed_first (c : Dev nD) : (dat0 m c).owed t0_0.castSucc = O₀ c := by
  show (if (Fin.castSucc t0_0 : Fin (cfg0.N + 1)).val = 0 then O₀ c else 0) = O₀ c; exact if_pos rfl
theorem owed_last (c : Dev nD) : (pdats m 0 c).owed (Fin.last _) = 0 := by
  show (if (Fin.last cfg0.N).val = 0 then O₀ c else 0) = 0
  rw [Fin.val_last, if_neg (by rw [show cfg0.N = 1 from N_0]; decide)]

/-- Waits recorded so far do not matter to this call. -/
theorem owes_in (c : Dev nD) (t : Fin (cfg0.N + 1)) (W : Waits sig Unit) :
    (owes (c : Thread nD τ) ((dat0 m c).owed t) W : sProp 𝕄) ⊢ (dat0 m c).owesAt () t := by
  unfold Dat.owesAt Pipeline.owesWithin Dat.bound
  rw [show (dat0 m c).recorded t = Set.univ from rfl]
  iintro H; iexists W
  isplitr; · ipureintro; exact fun _ _ => Or.inl trivial
  iexact H
/-- What is owed at a point, with some recorded waits. -/
theorem owes_out (c : Dev nD) (t : Fin (cfg0.N + 1)) :
    ((dat0 m c).owesAt () t : sProp 𝕄) ⊢ iprop(∃ W, owes (c : Thread nD τ) ((dat0 m c).owed t) W) := by
  unfold Dat.owesAt Pipeline.owesWithin
  iintro ⟨%W, -, H⟩; iexists W; iexact H

/-- A buffer owned through its whole memref. -/
theorem owns_whole (c : Dev nD) (b : Ref sig .tc) (X : b.ty.Contents (Elt F)) :
    (owns (Ix := Unit) (Name := ℕ) (U := UU) (Lvl := ℕ) (c : Thread nD τ) (Memref.whole b) fullShare X : sProp 𝕄)
      = iprop(∃ f : b.ty.Contents (Elt F), ⌜f = X⌝ ∗ ((c : Thread nD τ).loc b) ↦{fullShare} f) := by
  unfold owns; simp only [Memref.view_whole, View.read_whole, View.set_whole]

/-- The body finds the whole block of x staged. -/
theorem before_x (c : Dev nD) (d) : (dat0 m c).before 0 t0_0 d = xs m c := by
  unfold Dat.before
  rw [if_pos (fetch0_0 t0_0)]
  funext j
  show V₁ m c (Proc.devRef .tc main_v1) (((cfg0.win 0).rect t0_0).emb j) = _
  unfold xs
  congr 1; funext a; apply Fin.ext
  exact Pipeline.Window.rect_emb_val_of_index_zero _ _ _ ((by decide +kernel : ∀ a, (cfg0.win 0).index t0_0 a = 0) a) j
/-- The body finds the whole block of gamma staged. -/
theorem before_g (c : Dev nD) (d) : (dat0 m c).before 1 t0_0 d = gs m c := by
  unfold Dat.before
  rw [if_pos (fetch0_1 t0_0)]
  funext j
  show V₁ m c (Proc.devRef .tc main_v2) (((cfg0.win 1).rect t0_0).emb j) = _
  unfold gs
  congr 1; funext a; apply Fin.ext
  exact Pipeline.Window.rect_emb_val_of_index_zero _ _ _ ((by decide +kernel : ∀ a, (cfg0.win 1).index t0_0 a = 0) a) j

/-- The written-back array is the result block. -/
theorem arr_out (c : Dev nD) : (dat0 m c).arrAt 2 cfg0.N = ys m c :=
  Pipeline.Dat.arrAt_eq_of_after_last (dat0 m c) 2 t0_0 (by decide +kernel) (ys m c) (fun j => rfl)

set_option maxHeartbeats 800000 in
/-- The body's run, as the call asks for it. -/
theorem body (c : Dev nD) : BodyObligation (dat0 m c) defs₀ 𝒱₀ () Set.univ := fun t => by
  obtain rfl := fin_N0 t
  rw [bigSep_W0, bigSep_W0]
  rw [show (dat0 m c).Φ (Fin.castSucc t0_0) = iprop(Xk m c ∗ xchAny c ∗ ∃ r, prngReg c r) from rfl,
    show (dat0 m c).Φ (Fin.succ t0_0) = iprop(semVal (cell 0 c) 0 ∗ (semVal (cell 1 c) 0 ∗ semVal (cell 2 c) 0) ∗ xchAny c ∗ ∃ r, prngReg c r) from rfl]
  show iprop((Xk m c ∗ xchAny c ∗ ∃ r, prngReg c r) ∗ (dat0 m c).owesAt () (Fin.castSucc t0_0)
      ∗ (∃ d, owns (c : Thread nD τ) (Memref.whole cc0_stg0_0) fullShare ((dat0 m c).before 0 t0_0 d))
      ∗ (∃ d, owns (c : Thread nD τ) (Memref.whole cc0_stg1_0) fullShare ((dat0 m c).before 1 t0_0 d))
      ∗ (∃ d, owns (c : Thread nD τ) (Memref.whole cc0_stg2_0) fullShare ((dat0 m c).before 2 t0_0 d)))
    ⊢ wp frame (wpE (defs₀ (F := F)) 𝒱₀ c none) Set.univ
      (cc0_body (F := F) (Memref.whole cc0_stg0_0) (Memref.isWhole_whole _) (Memref.whole cc0_stg1_0) (Memref.isWhole_whole _)
        (Memref.whole cc0_stg2_0) (Memref.isWhole_whole _) (Memref.whole cc0_scratch0) (Memref.isWhole_whole _) cc0_scratch1 cc0_scratch2)
      (fun _ => iprop((semVal (cell 0 c) 0 ∗ (semVal (cell 1 c) 0 ∗ semVal (cell 2 c) 0) ∗ xchAny c ∗ ∃ r, prngReg c r) ∗ (dat0 m c).owesAt () (Fin.succ t0_0)
        ∗ owns (c : Thread nD τ) (Memref.whole cc0_stg0_0) fullShare (xs m c)
        ∗ owns (c : Thread nD τ) (Memref.whole cc0_stg1_0) fullShare (gs m c)
        ∗ owns (c : Thread nD τ) (Memref.whole cc0_stg2_0) fullShare (ys m c)))
  simp only [before_x, before_g, owns_whole]
  unfold Xk
  iintro ⟨⟨⟨⟨%K, Hop⟩, HcB, HcR, Hlev⟩, Hxch, Hreg⟩, HO, ⟨%dx, %fx, %hx, Hx⟩, ⟨%dg, %fg, %hg, Hg⟩, ⟨%dy, %fy, %hy, Hy⟩⟩
  subst hx; subst hg
  ihave HO := (owes_out m c _) $$ HO
  rw [owed_first]
  icases HO with ⟨%W, HO⟩
  iapply (body_run (xs m) (gs m) K c W _)
  isplitl [Hop HcB HcR Hlev Hxch HO Hx Hg Hy]
  · unfold bodyPre
    isplitl [Hop]; · iexact Hop
    isplitl [HcB]; · iexact HcB
    isplitl [HcR]; · iexact HcR
    isplitl [Hlev]; · iexact Hlev
    isplitl [Hxch]; · unfold xchAny; iexact Hxch
    isplitl [Hx]; · iexact Hx
    isplitl [Hg]; · iexact Hg
    isplitl [Hy]; · iexists fy; iexact Hy
    iexact HO
  unfold bodyPost
  iintro ⟨Hb, Hs, Hr, Hxch, Hx, Hg, Hy, ⟨%W', HO⟩⟩
  isplitl [Hb Hs Hr Hxch Hreg]
  · isplitl [Hb]; · iexact Hb
    isplitl [Hs Hr]; · isplitl [Hs] <;> iassumption
    isplitl [Hxch]; · unfold xchAny; iexact Hxch
    iexact Hreg
  isplitl [HO]
  · iapply (owes_in m c (Fin.succ t0_0) W')
    rw [show (dat0 m c).owed (Fin.succ t0_0) = 0 from rfl]; iexact HO
  isplitl [Hx]; · iexists _; isplitr; · ipureintro; rfl
                  iexact Hx
  isplitl [Hg]; · iexists _; isplitr; · ipureintro; rfl
                  iexact Hg
  iexists (ys m c); isplitr; · ipureintro; rfl
  unfold ys; iexact Hy

/-! ## The call as a step of the program -/

/-- The call's own semaphores: send and receive. -/
abbrev osem : Fin 2 → SemLoc sig := fun | 0 => .dma sendS | 1 => .dma recvS

/-- Their counters. -/
theorem ownSems_eq (c : Dev nD) : (Pipeline.ownSems0 osem c : sProp 𝕄) = iprop(semVal (cell 1 c) 0 ∗ semVal (cell 2 c) 0) :=
  BI.bigSep_fin_two (fun k : Fin 2 => (semVal ((c : Thread nD τ), osem k) 0 : sProp 𝕄))

/-- What the launch keeps for the call. -/
def Tk (c : Dev nD) : sProp 𝕄 := iprop((∃ K, ghost (partOf (xs m)) K c) ∗ cred (tallyAt (cell 0 c) () 1) ∗ cred (tallyAt (cell 2 c) () N))
/-- What the call keeps for the end. -/
def Yk (c : Dev nD) : sProp 𝕄 := semVal (cell 0 c) 0

/-- On entry the send and receive semaphores are opened with their counters. -/
theorem open_own (c : Dev nD) : iprop(Tk m c ∗ Pipeline.ownSems0 osem c ∗ levAts L lv) ⊢ (|={Set.univ}=> Xk m c : sProp 𝕄) := by
  rw [ownSems_eq]
  unfold Tk Xk ghost opened invs
  iintro ⟨⟨⟨%K, #HI, HaB, HoS, HoR, #HrP, Ht⟩, HcB, HcR⟩, ⟨Hs, Hr⟩, #Hlev⟩
  icases HI with ⟨#HIb, #HIs, #HIr, #HIbP, #HIrP⟩
  imod (Rounds.cell_open ER (sched (partOf (xs m))) (g := cell 1 c) (Set.mem_univ (K (cell 1 c)))) $$ [HoS Hs] with ⟨HaS, #HrS⟩
  · isplitr; · iexact HIs
    isplitl [HoS] <;> iassumption
  imod (Rounds.cell_open ER (sched (partOf (xs m))) (g := cell 2 c) (Set.mem_univ (K (cell 2 c)))) $$ [HoR Hr] with ⟨HaR, #HrR⟩
  · isplitr; · iexact HIr
    isplitl [HoR] <;> iassumption
  imodintro
  isplitl [HaB HaS HaR Ht]
  · iexists K
    isplitr
    · isplitr; · iexact HIb
      isplitr; · iexact HIs
      isplitr; · iexact HIr
      isplitr; · iexact HIbP
      iexact HIrP
    isplitl [HaB]; · iexact HaB
    isplitl [HaS]; · iexact HaS
    isplitl [HaR]; · iexact HaR
    isplitr; · iexact HrP
    isplitr; · iexact HrS
    isplitr; · iexact HrR
    iexact Ht
  isplitl [HcB]; · iexact HcB
  isplitl [HcR]; · iexact HcR
  iexact Hlev

/-- The layout facts of the call. -/
theorem layout : Pipeline.PLaunchFacts (nD := nD) (τ := τ) (pcfgs (F := F)) 0 where
  cellOf_inj a := by rw [Subsingleton.elim a adm]; exact cellOf_inj
  win := winFacts0
  pre := Pipeline.PreFacts.none _
  block_pos := block_pos0
  arr_whole := arr_whole0
  stage_whole := stage_whole0

/-- The buffers the call does not stage. -/
abbrev others : Finset (DevRef τ sig) := {Proc.devRef .tc main_arg0, Proc.devRef .tc main_arg1, Proc.devRef .tc main_v4}

theorem others_same (c : Dev nD) : ∀ b ∈ others \ ∅, V₂ m c b = V₁ m c b := by
  intro b hb
  rw [Finset.sdiff_empty] at hb
  simp only [others, Finset.mem_insert, Finset.mem_singleton] at hb
  rcases hb with rfl | rfl | rfl
  · exact V₂_ne m c _ (by decide)
  · exact V₂_ne m c _ (by decide)
  · exact V₂_ne m c _ (by decide)

/-- What the call starts from, put together. -/
theorem step_in (c : Dev nD) : iprop(Pipeline.scopedRest (Pipeline.pin (pcfgs (F := F)) adm 0).spec c ∗ (∃ r, prngReg c r)
      ∗ StableHlo.held (c.tc : Thread nD τ) ∅ (V₁ m c) ∗ Xk m c) ⊢ (pdats m 0 c).Φ 0 := by
  rw [show (pdats m 0 c).Φ 0 = iprop(Xk m c ∗ xchAny c ∗ ∃ r, prngReg c r) from rfl,
    show (Pipeline.scopedRest (Ix := Unit) (Name := ℕ) (U := UU) (Lvl := ℕ) (Val := Elt F) (Pipeline.pin (pcfgs (F := F)) adm 0).spec c : sProp 𝕄) = xchAny c from scopedRest0_eq c]
  iintro ⟨Hs, Hp, -, HX⟩
  isplitl [HX]; · iexact HX
  isplitl [Hs] <;> iassumption

/-- What the call ends with, taken apart. -/
theorem step_out (c : Dev nD) : (pdats m 0 c).Φ (Fin.last (Pipeline.pin (pcfgs (F := F)) adm 0).N)
    ⊢ iprop(Pipeline.scopedRest (Pipeline.pin (pcfgs (F := F)) adm 0).spec c ∗ (∃ r, prngReg c r)
      ∗ StableHlo.held (c.tc : Thread nD τ) ∅ (V₂ m c) ∗ Pipeline.ownSems0 osem c ∗ Yk c) := by
  rw [show (pdats m 0 c).Φ (Fin.last _) = iprop(semVal (cell 0 c) 0 ∗ (semVal (cell 1 c) 0 ∗ semVal (cell 2 c) 0) ∗ xchAny c ∗ ∃ r, prngReg c r) from rfl,
    show (Pipeline.scopedRest (Ix := Unit) (Name := ℕ) (U := UU) (Lvl := ℕ) (Val := Elt F) (Pipeline.pin (pcfgs (F := F)) adm 0).spec c : sProp 𝕄) = xchAny c from scopedRest0_eq c,
    ownSems_eq, show (StableHlo.held (c.tc : Thread nD τ) ∅ (V₂ m c) : sProp 𝕄) = BI.emp from BI.bigSep_empty]
  unfold Yk
  iintro ⟨Hb, Hsr, Hs, Hp⟩
  isplitl [Hs]; · iexact Hs
  isplitl [Hp]; · iexact Hp
  isplitr; · iempintro
  isplitl [Hsr] <;> iassumption

/-- Whatever a device owes around the call lies above level 0. -/
theorem owed_above (c : Dev nD) (t : Fin ((Pipeline.pin (pcfgs (F := F)) adm 0).N + 1)) (g : GSem nD τ sig) (i : Unit)
    (h : 0 < (pdats m 0 c).owed t g i) : i ∈ L g ∧ (0 : ℕ) < lv g i := by
  rw [show (pdats m 0 c).owed t = if t.val = 0 then O₀ c else 0 from rfl] at h
  split at h
  · exact O₀_above h
  · exact absurd h (Nat.lt_irrefl 0)

/-- The staging semaphores play no part in the exchange. -/
theorem stage_lv (c : Dev nD) (w : Fin cfg0.W) (s : Fin (cfg0.win w).nbuf) : lv ((c : Thread nD τ), .dma ((cfg0.win w).sem s)) () ≤ 0 := by
  have h : role (.dma ((cfg0.win w).sem s)) = none := by revert s; revert w; decide
  unfold lv; rw [h]; exact le_refl 0

/-- The arrays as the call finds them. -/
theorem arr_before (c : Dev nD) (w : Fin cfg0.W) : (pdats m 0 c).arrAt w 0 = V₁ m c (Proc.devRef .tc (Pipeline.arrRef spec0 w)) := rfl
/-- The arrays as the call leaves them. -/
theorem arr_after (c : Dev nD) (w : Fin cfg0.W) : (pdats m 0 c).arrAt w cfg0.N = V₂ m c (Proc.devRef .tc (Pipeline.arrRef spec0 w)) := by
  fin_cases w
  · exact ((dat0 m c).arrAt_in 0 rfl _).trans (V₂_ne m c main_v1 (by decide)).symm
  · exact ((dat0 m c).arrAt_in 1 rfl _).trans (V₂_ne m c main_v2 (by decide)).symm
  · exact (arr_out m c).trans (V₂_self m c).symm

set_option backward.isDefEq.respectTransparency.types false in
/-- The call. -/
def call : Pipeline.RegionSeg (pcfgs (F := F)) adm (pdats m) () defs₀ 𝒱₀ L lv 0 :=
  Pipeline.RegionSeg.ofTalk (pcfgs (F := F)) adm (pdats m) () defs₀ 𝒱₀ L lv 0 osem (by decide : Pipeline.OwnSemFacts spec0 osem)
    ∅ others (Finset.empty_subset _) layout rfl (fun c => (body m c).loose)
    (fun _ => 0) O₀ (fun c => (owed_zero m c).trans (zero_add _).symm) (owed_last m) (fun _ => rfl)
    (fun c w => by show (if _ then fullShare else fullShare) = fullShare; exact ite_self _)
    (V₁ m) (V₂ m) (others_same m) (Tk m) Yk (Xk m) Yk (open_own m) (step_in m) (step_out m)
    (fun c => by iintro H; imodintro; iexact H)
    (fun _ => 0)
    ⟨fun c w s => mem_L c _, fun c w s => stage_lv c w s, fun c t g i h => owed_above m c t g i h⟩
    (fun _ => iprop(emp)) (arr_before m) (arr_after m)

end Cert.Rms

end
-- ==== Proof.Run.lean ====
/-
  The whole program: reshapes, the kernel call, the last reshape.

  At the launch every device's three semaphores are put under the exchange's schedule, the barriers with their counters and
  the send and receive semaphores still closed, and the rights to pay are dealt: each device gets those of its partner's
  barrier and receive semaphores, and of its own send semaphore. Then the three steps are run one after the other. The run
  holds for any float carrier, and states what the result is, that the arguments are unchanged, and that every semaphore is
  back at zero.
-/
module

public import proofs.«01_k».proof.Proof.Region

@[expose] public section

noncomputable section

namespace Cert.Rms

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Cert.KernelIdeal Cert.KernelIdeal.Gen

variable {F : FTy → Type} [FloatOps F]

local notation "𝕄" => MT nD τ sig Unit (Elt F) ℕ UU ℕ

variable (m : (ℓ : Loc nD τ sig) → Buf (Elt F) ℓ) (ρ : Dev nD → PrngReg)

/-! ## The buffers of the program -/

/-- The buffers that live through the program. -/
abbrev bufs : Finset (DevRef τ sig) := (StableHlo.tcRefs τ sig).filter fun b => ¬ b.isScoped

/-- Held, they are what the launch gives. -/
theorem bufs_held (c : Dev nD) (W : Valuation τ sig (Elt F)) :
    (unscopedBufs c (fun b => W b) : sProp 𝕄) = StableHlo.held (c : Thread nD τ) bufs W := by
  unfold unscopedBufs StableHlo.held bufs StableHlo.tcRefs
  rw [Finset.filter_map, BI.bigSep_map]
  rfl

/-- The arrays the call stages. -/
abbrev staged : Finset (DevRef τ sig) := Pipeline.arrRefs (τ := τ) spec0

/-- The call's arrays and the buffers it does not stage are all of them. -/
theorem bufs_split (c : Dev nD) (W : Valuation τ sig (Elt F)) : (StableHlo.held (c : Thread nD τ) bufs W : sProp 𝕄)
    = iprop(StableHlo.held (c : Thread nD τ) staged W ∗ StableHlo.held (c : Thread nD τ) others W) := by
  rw [StableHlo.held_sub_split (c : Thread nD τ) (show staged ⊆ bufs by decide) W, show bufs \ staged = others by decide]

/-- The buffers that live through the program, one by one. -/
theorem bufs_eq (c : Dev nD) (W : Valuation τ sig (Elt F)) : (StableHlo.held (c : Thread nD τ) bufs W : sProp 𝕄)
    = iprop(held c main_arg0 (W (Proc.devRef .tc main_arg0)) ∗ held c main_arg1 (W (Proc.devRef .tc main_arg1)) ∗ held c main_v1 (W (Proc.devRef .tc main_v1))
      ∗ held c main_v2 (W (Proc.devRef .tc main_v2)) ∗ held c main_v3 (W (Proc.devRef .tc main_v3)) ∗ held c main_v4 (W (Proc.devRef .tc main_v4))) := by
  unfold StableHlo.held
  rw [bigSep_eq_bigSepL_of_eq [Proc.devRef .tc main_arg0, Proc.devRef .tc main_arg1, Proc.devRef .tc main_v1, Proc.devRef .tc main_v2,
    Proc.devRef .tc main_v3, Proc.devRef .tc main_v4] (by decide) (by decide)]
  rfl

/-- The barrier's counter is the one counter the launch gives. -/
theorem launch_sems (c : Dev nD) : (unscopedSems0 c : sProp 𝕄) = semVal (cell 0 c) 0 := by
  unfold unscopedSems0
  rw [show (Finset.univ.filter fun sm : SemLoc sig => ¬ sm.isScoped .tc) = {SemLoc.reg barS} from by decide, BI.bigSep_singleton]

/-- A semaphore that outlives the call is the barrier. -/
theorem unscoped_eq : ∀ sm : SemLoc sig, sm.isScoped .tc = false → sm = .reg barS := by decide

/-! ## The three steps -/

/-- What goes past the first reshapes: the generator, the launch's share of the exchange, the debts. -/
def carried (c : Dev nD) : sProp 𝕄 := iprop((∃ r, prngReg c r) ∗ Tk m c ∗ ∃ W, owes (c : Thread nD τ) (O₀ c) W)
/-- What goes past the last reshape: the barrier's counter, and nothing owed. -/
def settled (c : Dev nD) : sProp 𝕄 := iprop(semVal (cell 0 c) 0 ∗ ∃ W, owes (c : Thread nD τ) (0 : CellTallies nD τ sig Unit) W)

/-- A reshape of this program stays within its buffers. -/
theorem ops0_sub : ∀ op ∈ (hostOps0 : List (HloOp τ sig (Elt F))), op.bufs ⊆ bufs := fun op h =>
  Pipeline.sub_ucRefs op ((List.forall_iff_forall_mem.mp hostOps0_sub) op h)
theorem ops1_sub : ∀ op ∈ (hostOps1 : List (HloOp τ sig (Elt F))), op.bufs ⊆ bufs := fun op h =>
  Pipeline.sub_ucRefs op ((List.forall_iff_forall_mem.mp hostOps1_sub) op h)

/-- The first reshapes. -/
def first : Pipeline.HostSeg (Name := ℕ) (U := UU) (pcfgs (F := F)) defs₀ 𝒱₀ L lv :=
  Pipeline.HostSeg.ofOps _ _ _ _ _ bufs hostOps0 ops0_sub (List.forall_iff_forall_mem.mp hostOps0_fresh) (V₀ m) (carried m)
/-- The last reshape. -/
def last : Pipeline.HostSeg (Name := ℕ) (U := UU) (pcfgs (F := F)) defs₀ 𝒱₀ L lv :=
  Pipeline.HostSeg.ofOps _ _ _ _ _ bufs hostOps1 ops1_sub (List.forall_iff_forall_mem.mp hostOps1_fresh) (V₂ m) settled

/-- The program's steps. -/
def steps : List (Pipeline.Seg (pcfgs (F := F)) adm (pdats m) () defs₀ 𝒱₀ L lv) := [.host (first m), .region (call m), .host (last m)]

/-- The program is its steps. -/
theorem main_steps (c : Dev nD) : main (F := F) c = Pipeline.Seg.run (steps m) :=
  main_segs adm (pdats m) () 𝒱₀ L lv (first m) (last m) (call m) rfl rfl c

/-- From the first reshapes to the call. -/
theorem to_call (c : Dev nD) : iprop(StableHlo.held (c : Thread nD τ) bufs (V₁ m c) ∗ carried m c) ⊢ (call m).pre c := by
  show _ ⊢ iprop(StableHlo.held (c : Thread nD τ) staged (V₁ m c) ∗ (∃ r, prngReg c r)
    ∗ (StableHlo.held (c : Thread nD τ) others (V₁ m c) ∗ emp) ∗ Tk m c ∗ ∃ Wd, owes (c : Thread nD τ) (0 + O₀ c) Wd)
  rw [bufs_split, zero_add]
  unfold carried
  iintro ⟨⟨Ha, Ho⟩, Hp, HT, HO⟩
  isplitl [Ha]; · iexact Ha
  isplitl [Hp]; · iexact Hp
  isplitl [Ho]
  · isplitl [Ho]; · iexact Ho
    iempintro
  isplitl [HT] <;> iassumption

/-- From the call to the last reshape. -/
theorem from_call (c : Dev nD) : (call m).post c ⊢ iprop(StableHlo.held (c : Thread nD τ) bufs (V₂ m c) ∗ settled c) := by
  show iprop(StableHlo.held (c : Thread nD τ) staged (V₂ m c) ∗ (∃ r, prngReg c r)
    ∗ (StableHlo.held (c : Thread nD τ) others (V₂ m c) ∗ emp) ∗ Yk c ∗ ∃ Wd, owes (c : Thread nD τ) (0 : CellTallies nD τ sig Unit) Wd) ⊢ _
  rw [bufs_split]
  unfold settled Yk
  iintro ⟨Ha, -, ⟨Ho, -⟩, Hb, HO⟩
  isplitl [Ha Ho]; · isplitl [Ha] <;> iassumption
  isplitl [Hb] <;> iassumption

/-! ## The launch -/

/-- The barriers of all devices. -/
def barEmb : Dev nD ↪ GSem nD τ sig := ⟨fun c => cell 0 c, fun _ _ h => congrArg (fun g : GSem nD τ sig => g.1.1) h⟩
theorem osem_inj : Function.Injective osem := by decide
theorem osem_ne_bar : ∀ k : Fin 2, osem k ≠ .reg barS := by decide
/-- The send and receive semaphores of all devices. -/
def ownEmb : Dev nD × Fin 2 ↪ GSem nD τ sig :=
  ⟨fun ck => ((ck.1 : Thread nD τ), osem ck.2), fun _ _ h =>
    Prod.ext (congrArg (fun g : GSem nD τ sig => g.1.1) h) (osem_inj (congrArg Prod.snd h))⟩
abbrev barCells : Finset (GSem nD τ sig) := Finset.univ.map barEmb
abbrev ownCells : Finset (GSem nD τ sig) := Finset.univ.map ownEmb
theorem spot_inj : Function.Injective spot := by decide
/-- The one duty of each semaphore. -/
def allToks : Finset (GSem nD τ sig × ℕ × Unit) :=
  Finset.univ.map ⟨fun ck : Dev nD × Fin 3 => (cell ck.2 ck.1, 0, ()), fun _ _ h =>
    Prod.ext (congrArg (fun t : GSem nD τ sig × ℕ × Unit => t.1.1.1) h)
      (spot_inj (congrArg (fun t : GSem nD τ sig × ℕ × Unit => t.1.2) h))⟩

/-- A barrier is neither a send nor a receive semaphore. -/
theorem cells_disjoint : Disjoint (barCells : Finset (GSem nD τ sig)) ownCells := by
  rw [Finset.disjoint_left]
  rintro g h₁ h₂
  obtain ⟨c, -, rfl⟩ := Finset.mem_map.mp h₁
  obtain ⟨ck, -, h⟩ := Finset.mem_map.mp h₂
  exact osem_ne_bar ck.2 (congrArg Prod.snd h)

/-- Each of the three is under the schedule. -/
theorem cell_mem (k : Fin 3) (c : Dev nD) : cell k c ∈ (barCells ∪ ownCells : Finset (GSem nD τ sig)) := by
  fin_cases k
  · exact Finset.mem_union_left _ (Finset.mem_map_of_mem barEmb (Finset.mem_univ c))
  · exact Finset.mem_union_right _ (Finset.mem_map_of_mem ownEmb (Finset.mem_univ (c, (0 : Fin 2))))
  · exact Finset.mem_union_right _ (Finset.mem_map_of_mem ownEmb (Finset.mem_univ (c, (1 : Fin 2))))

/-- The ghost state at the launch. -/
def u₀ : UU :=
  (initOf (Pipeline.cells (Pipeline.pin (pcfgs (F := F)) adm) cellOf_inj) (Pipeline.launchToks (Pipeline.pin (pcfgs (F := F)) adm) cellOf_inj),
    launchOf barCells ownCells allToks)

/-- A resource that device d alone carries. -/
def onlyOn (d : Dev nD) (X : sProp 𝕄) (c : Dev nD) : sProp 𝕄 := if c = d then X else iprop(emp)
/-- All devices together carry it once. -/
theorem bigSep_onlyOn (d : Dev nD) (X : sProp 𝕄) : bigSep Finset.univ (onlyOn d X) = X := by
  rw [bigSep_univ_at _ d, bigSep_congr (s := Finset.univ.erase d) (Ψ := fun _ => (BI.emp : sProp 𝕄))
      fun c hc => by unfold onlyOn; rw [if_neg (Finset.ne_of_mem_erase hc)]; rfl, BI.bigSep_emp_const]
  unfold onlyOn; rw [if_pos rfl]
  exact BI.equiv_iff.mp sep_emp

/-- The exchange's ghost state, carried by device 0 until all of it is dealt. -/
def seed : Dev nD → sProp 𝕄 := onlyOn 0 (BI.own (ER (launchOf barCells ownCells allToks)))

/-- What any device may look up: the invariants at one table of names, and that every barrier is in use. -/
def records (κ : GSem nD τ sig → ℕ) : sProp 𝕄 :=
  iprop((bigSep (barCells ∪ ownCells) fun g => cellInv ER (sched (partOf (xs m))) (κ g) g) ∗ bigSep barCells fun g => reached ER g 0)

instance records_persistent (κ : GSem nD τ sig → ℕ) : BI.Persistent (records m κ) := by unfold records; infer_instance

theorem inv_at (κ : GSem nD τ sig → ℕ) (k : Fin 3) (c : Dev nD) :
    (bigSep (barCells ∪ ownCells) fun g => (cellInv ER (sched (partOf (xs m))) (κ g) g : sProp 𝕄)) ⊢ cellInv ER (sched (partOf (xs m))) (κ (cell k c)) (cell k c) :=
  bigSep_elim (cell_mem k c)
theorem reached_at (c : Dev nD) : (bigSep barCells fun g => (reached ER g 0 : sProp 𝕄)) ⊢ reached ER (cell 0 c) 0 :=
  bigSep_elim (Finset.mem_map_of_mem barEmb (Finset.mem_univ c))

/-- What is one device's alone: its place on its barrier, the rights to open its other two semaphores, and its rights to pay. -/
def share (c : Dev nD) : sProp 𝕄 :=
  iprop(atPos ER (cell 0 c) 0 ∅ 0 ∗ (openTok ER (cell 1 c) ∗ openTok ER (cell 2 c)) ∗ tokens c)

/-- The two together are what it carries to the call. -/
theorem ghost_intro (κ : GSem nD τ sig → ℕ) (c : Dev nD) : iprop(records m κ ∗ share c) ⊢ iprop(∃ K, ghost (partOf (xs m)) K c) := by
  unfold records share ghost invs
  iintro ⟨⟨#HI, #HR⟩, Ha, ⟨HoS, HoR⟩, Ht⟩
  iexists κ
  isplitr
  · isplitr; · iapply (inv_at m κ 0 c); iexact HI
    isplitr; · iapply (inv_at m κ 1 c); iexact HI
    isplitr; · iapply (inv_at m κ 2 c); iexact HI
    isplitr; · iapply (inv_at m κ 0 (peer c)); iexact HI
    iapply (inv_at m κ 2 (peer c)); iexact HI
  isplitl [Ha]; · iexact Ha
  isplitl [HoS]; · iexact HoS
  isplitl [HoR]; · iexact HoR
  isplitr; · iapply (reached_at (F := F) (peer c)); iexact HR
  iexact Ht

/-- The rights to pay, sorted by the device whose semaphore is paid. -/
def paid (c : Dev nD) : sProp 𝕄 := iprop(dutyTok ER (cell 0 c) 0 () ∗ dutyTok ER (cell 1 c) 0 () ∗ dutyTok ER (cell 2 c) 0 ())

theorem paid_eq : bigSep allToks (fun x => (dutyTok ER x.1 x.2.1 x.2.2 : sProp 𝕄)) = bigSep Finset.univ fun c : Dev nD => paid c := by
  unfold allToks; rw [bigSep_map, bigSep_univ_prod]
  refine bigSep_congr fun c _ => ?_
  unfold paid
  exact bigSep_univ_eq_bigSepL [0, 1, 2] (by decide) (by decide) (fun k : Fin 3 => (dutyTok ER (cell k c) 0 () : sProp 𝕄))

/-- The rights to pay a barrier and a receive semaphore go to the partner. -/
theorem deal : (bigSep Finset.univ fun c : Dev nD => (paid c : sProp 𝕄)) ⊢ bigSep Finset.univ fun c : Dev nD => tokens c := by
  unfold paid tokens
  rw [bigSep_sep', bigSep_sep', bigSep_sep', bigSep_sep',
    bigSep_univ_equiv swap (fun c : Dev nD => (dutyTok ER (cell 0 c) 0 () : sProp 𝕄)),
    bigSep_univ_equiv swap (fun c : Dev nD => (dutyTok ER (cell 2 c) 0 () : sProp 𝕄))]
  show iprop(bigSep Finset.univ (fun c => (dutyTok ER (cell 0 (peer c)) 0 () : sProp 𝕄)) ∗ bigSep Finset.univ (fun c => (dutyTok ER (cell 1 c) 0 () : sProp 𝕄))
    ∗ bigSep Finset.univ (fun c => (dutyTok ER (cell 2 (peer c)) 0 () : sProp 𝕄))) ⊢ _
  iintro ⟨H0, H1, H2⟩
  isplitl [H0]; · iexact H0
  isplitl [H2] <;> iassumption

/-! ### The credit at the launch -/

theorem recv_ne_bar : (SemLoc.dma recvS : SemLoc sig) ≠ .reg barS := by decide

/-- A tally at a partner's semaphore, read at a device's own. -/
theorem tally_at (k : Fin 3) (n : ℕ) (d c : Dev nD) : tallyAt (cell k (peer d)) () n (cell k c) () = if d = peer c then n else 0 := by
  rw [tallyAt_apply]
  by_cases h : d = peer c
  · subst h; rw [peer_peer, if_pos ⟨rfl, rfl⟩, if_pos rfl]
  · rw [if_neg (fun ⟨h1, _⟩ => h (by rw [← peer_peer d]; exact congrArg peer (Fin.ext (congrArg (fun g : GSem nD τ sig => g.1.1.val) h1)).symm)), if_neg h]

theorem owed_bar (d c : Dev nD) : O₀ d (cell 0 c) () = if d = peer c then 1 else 0 := by
  unfold O₀
  rw [Pi.add_apply, Finsupp.add_apply, tally_at 0, tallyAt_ne_cell (fun h => recv_ne_bar (congrArg Prod.snd h).symm), Finsupp.zero_apply, Nat.zero_add]
theorem owed_recv (d c : Dev nD) : O₀ d (cell 2 c) () = if d = peer c then N else 0 := by
  unfold O₀
  rw [Pi.add_apply, Finsupp.add_apply, tally_at 2, tallyAt_ne_cell (fun h => recv_ne_bar (congrArg Prod.snd h)), Finsupp.zero_apply, Nat.add_zero]

/-- The credit on a semaphore that the partner alone owes. -/
theorem credit_at (k : Fin 3) (n : ℕ) (c : Dev nD) (h : ∀ d, O₀ d (cell k c) () = if d = peer c then n else 0) :
    tallyOn (cell k c) (launchCredit (Pipeline.owing O₀) 0 (cell k c)) = (tallyAt (cell k c) () n : CellTallies nD τ sig Unit) := by
  unfold tallyAt; refine congrArg _ (Finsupp.ext fun u => ?_); cases u
  rw [Pipeline.launchCredit_owing, Finsupp.single_eq_same, Finset.sum_congr rfl fun d _ => h d, Finset.sum_ite_eq' Finset.univ (peer c) fun _ => n,
    if_pos (Finset.mem_univ _)]

/-- A device starts with its barrier's unit of credit and its receive semaphore's. -/
theorem credits (c : Dev nD) :
    (Pipeline.launchCred O₀ c : sProp 𝕄) ⊢ iprop(cred (tallyAt (cell 0 c) () 1) ∗ cred (tallyAt (cell 2 c) () N)) := by
  unfold Pipeline.launchCred
  rw [bigSep_univ_at _ (SemLoc.reg barS), show (tallyOn ((c : Thread nD τ), SemLoc.reg barS) _ : CellTallies nD τ sig Unit) = _ from credit_at 0 1 c fun d => owed_bar d c]
  refine sep_mono_right ?_
  rw [← credit_at 2 N c fun d => owed_recv d c]
  exact bigSep_elim (Finset.mem_erase.mpr ⟨recv_ne_bar, Finset.mem_univ _⟩)

/-! ### Dealing -/

/-- A family of pairs over the devices, as two families. -/
theorem sep_apart {Φ Ψ : Dev nD → sProp 𝕄} :
    bigSep Finset.univ (fun c => iprop(Φ c ∗ Ψ c)) ⊢ iprop(bigSep Finset.univ Φ ∗ bigSep Finset.univ Ψ) :=
  Entails.of_eq (bigSep_sep _ _ _)
/-- Two families over the devices, as a family of pairs. -/
theorem sep_together {Φ Ψ : Dev nD → sProp 𝕄} :
    iprop(bigSep Finset.univ Φ ∗ bigSep Finset.univ Ψ) ⊢ bigSep Finset.univ (fun c => iprop(Φ c ∗ Ψ c)) :=
  Entails.of_eq (bigSep_sep _ _ _).symm

/-- What a device holds when the program starts. -/
abbrev T₀ (c : Dev nD) : sProp 𝕄 := iprop(StableHlo.held (c : Thread nD τ) bufs (V₀ m c) ∗ carried m c)
/-- What it holds when the program ends. -/
abbrev T₁ (c : Dev nD) : sProp 𝕄 := iprop(StableHlo.held (c : Thread nD τ) bufs (V₃ m c) ∗ semVal (cell 0 c) 0)

/-- What a device holds from the launch beside the exchange. -/
def rest (c : Dev nD) : sProp 𝕄 :=
  iprop(StableHlo.held (c : Thread nD τ) bufs (V₀ m c) ∗ (cred (tallyAt (cell 0 c) () 1) ∗ cred (tallyAt (cell 2 c) () N))
    ∗ owes (c : Thread nD τ) (O₀ c) ∅ ∗ prngReg c (ρ c))

theorem start_intro (κ : GSem nD τ sig → ℕ) (c : Dev nD) : iprop(records m κ ∗ (share c ∗ rest m ρ c)) ⊢ T₀ m c := by
  unfold rest T₀ carried Tk
  iintro ⟨#HR, Hs, Hh, ⟨HcB, HcR⟩, HO, Hp⟩
  isplitl [Hh]; · iexact Hh
  isplitl [Hp]; · iexists _; iexact Hp
  isplitr [HO]
  · isplitl [Hs]
    · iapply (ghost_intro m κ c)
      isplitr; · iexact HR
      iexact Hs
    isplitl [HcB] <;> iassumption
  · iexists ∅; iexact HO

/-- What the launch gives one device. -/
abbrev given (c : Dev nD) : sProp 𝕄 :=
  iprop(unscopedBufs c (fun b => m ((c : Thread nD τ).loc b)) ∗ unscopedSems0 c ∗ owes (c : Thread nD τ) (O₀ c) ∅
    ∗ Pipeline.launchCred O₀ c ∗ prngReg c (ρ c) ∗ seed c)

theorem given_apart (c : Dev nD) : given m ρ c ⊢ (iprop(rest m ρ c ∗ (semVal (cell 0 c) 0 ∗ seed c)) : sProp 𝕄) := by
  unfold given
  rw [show unscopedBufs c (fun b => m ((c : Thread nD τ).loc b)) = StableHlo.held (c : Thread nD τ) bufs (V₀ m c) from bufs_held c (V₀ m c), launch_sems]
  unfold rest
  iintro ⟨Hh, Hv, HO, Hcr, Hp, HG⟩
  ihave Hc := (credits (F := F) c) $$ Hcr
  isplitl [Hh Hc HO Hp]
  · isplitl [Hh]; · iexact Hh
    isplitl [Hc]; · iexact Hc
    isplitl [HO] <;> iassumption
  isplitl [Hv] <;> iassumption

/-- The launch deals everything. -/
theorem dealt : iprop((bigSep Finset.univ fun c : Dev nD => given m ρ c) ∗ levAts L lv) ⊢ (|={Set.univ}=> bigSep Finset.univ (T₀ m) : sProp 𝕄) := by
  have hv : bigSep Finset.univ (fun c : Dev nD => (semVal (cell 0 c) 0 : sProp 𝕄)) ⊢ bigSep barCells (fun g => (semVal g 0 : sProp 𝕄)) :=
    Entails.of_eq (bigSep_map (s := Finset.univ) barEmb (Φ := fun g : GSem nD τ sig => (semVal g 0 : sProp 𝕄))).symm
  have hat : bigSep barCells (fun g => (atPos ER g 0 ∅ 0 : sProp 𝕄)) ⊢ bigSep Finset.univ (fun c : Dev nD => (atPos ER (cell 0 c) 0 ∅ 0 : sProp 𝕄)) :=
    Entails.of_eq (bigSep_map (s := Finset.univ) barEmb (Φ := fun g : GSem nD τ sig => (atPos ER g 0 ∅ 0 : sProp 𝕄)))
  have hopen : bigSep ownCells (fun g => (openTok ER g : sProp 𝕄))
      ⊢ bigSep Finset.univ (fun c : Dev nD => iprop(openTok ER (cell 1 c) ∗ openTok ER (cell 2 c))) :=
    Entails.of_eq (by
      rw [bigSep_map, bigSep_univ_prod]
      exact bigSep_congr fun c _ => BI.bigSep_fin_two (fun k : Fin 2 => (openTok ER ((c : Thread nD τ), osem k) : sProp 𝕄)))
  iintro ⟨H, -⟩
  ihave H := (show (bigSep Finset.univ fun c : Dev nD => given m ρ c)
      ⊢ (bigSep Finset.univ fun c : Dev nD => iprop(rest m ρ c ∗ (semVal (cell 0 c) 0 ∗ seed c)) : sProp 𝕄) from bigSep_mono fun c _ => given_apart m ρ c) $$ H
  ihave H := sep_apart $$ H; icases H with ⟨HB, H⟩
  ihave H := sep_apart $$ H; icases H with ⟨Hv, HG⟩
  ihave Hu := (show bigSep Finset.univ (seed (F := F)) ⊢ BI.own (ER (launchOf barCells ownCells allToks)) from Entails.of_eq (bigSep_onlyOn (F := F) 0 _)) $$ HG
  imod (Rounds.fund_launch ER (sched (partOf (xs m))) cells_disjoint (fun g _ h => h) allToks) $$ [Hv Hu] with ⟨%κ, -, #Hinv, #Hr, Hat, Hopen, Htok⟩
  · isplitl [Hv]
    · iapply hv $$ Hv
    · iexact Hu
  imodintro
  iapply (bigSep_with_persistent (R := records m κ) (Φ := fun c => iprop(share c ∗ rest m ρ c)) fun c _ => start_intro m ρ κ c)
  isplitr
  · unfold records
    isplitr; · iexact Hinv
    iexact Hr
  iapply sep_together
  isplitr [HB]
  · unfold share
    iapply sep_together; isplitl [Hat]; · iapply hat $$ Hat
    iapply sep_together; isplitl [Hopen]; · iapply hopen $$ Hopen
    iapply (deal (F := F))
    iapply (Entails.of_eq (paid_eq (F := F))) $$ Htok
  · iexact HB

/-! ## The run -/

/-- What is known of device c in a final state. -/
def final (c : Dev nD) (s : MemSt nD τ sig (Elt F)) : Prop :=
  s.mem ((c : Thread nD τ).loc main_v4) = V₃ m c (Proc.devRef .tc main_v4)
    ∧ s.mem ((c : Thread nD τ).loc main_arg0) = m ((c : Thread nD τ).loc main_arg0)
    ∧ s.mem ((c : Thread nD τ).loc main_arg1) = m ((c : Thread nD τ).loc main_arg1)

set_option backward.isDefEq.respectTransparency.types false in
/-- From any memory with all semaphores at zero, every fair execution on the four devices ends, with the result as computed
    from the devices' blocks, the arguments unchanged, and all semaphores at zero. -/
theorem run_main : θ_run defs (onTc (τ := τ) (main (F := F))) ⟨m, fun _ => 0, ρ⟩
    (fun r => (∀ c : Dev nD, final m c r.2) ∧ r.2.sem = fun _ => 0) :=
  Pipeline.θ_run_regions_kit_sems (pcfgs (F := F)) adm (pdats m) () cellOf_inj EP defs₀ 𝒱₀ L lv m ρ main (steps m)
    (fun c Q => by rw [main_steps m c])
    (by simp only [steps, Pipeline.Seg.pipes_host, Pipeline.Seg.pipes_region, Pipeline.Seg.pipes_nil]; decide)
    (O₀ := O₀) (hL := L_of_ne) (G := seed) (u₀ := u₀)
    (hu₀ := by
      unfold u₀ seed
      iintro Hu
      ihave H := (ownU_pair _ _) $$ Hu
      icases H with ⟨HP, HX⟩
      imodintro
      isplitl [HP]; · iexact HP
      rw [bigSep_onlyOn]; iexact HX)
    (T₀ := T₀ m) (Tₙ := T₁ m)
    (hch := by
      refine ⟨fun c => .rfl, fun c => to_call m c, fun c => from_call m c, fun c => ?_⟩
      show iprop(StableHlo.held (c : Thread nD τ) bufs (V₃ m c) ∗ settled c)
        ⊢ iprop(T₁ m c ∗ ∃ W, owes (c : Thread nD τ) (0 : CellTallies nD τ sig Unit) W)
      unfold settled
      iintro ⟨Hh, Hb, HO⟩
      isplitr [HO]
      · isplitl [Hh] <;> iassumption
      · iexact HO)
    (hinit := dealt m ρ)
    (QY := fun c s => final m c s ∧ s.sem (cell 0 c) = 0)
    (hfin := fun c s' => by
      dsimp only [T₁]; rw [bufs_eq, V₃_arg0, V₃_arg1]
      iintro ⟨⟨⟨H0, H1, -, -, -, H4⟩, Hb⟩, HSI⟩
      icombine HSI H0 gives %h0
      icombine HSI H1 gives %h1
      icombine HSI H4 gives %h4
      icombine HSI Hb gives %hb
      imodintro
      isplitr
      · ipureintro
        exact ⟨⟨Buf.eq_of_forall_mem_univ h4, Buf.eq_of_forall_mem_univ h0, Buf.eq_of_forall_mem_univ h1⟩, by simpa using hb⟩
      iexact HSI)
    (hQ := fun s h hs => ⟨fun c => (h c).1,
      sem_eq_zero hs fun c sm hsm => by
        obtain rfl := unscoped_eq sm hsm
        exact (h c).2⟩)

end Cert.Rms

end
-- ==== Proof.Arith.lean ====
/-
  The arithmetic of the normaliser, on extended reals.

  The kernel multiplies by the reciprocal square root of the mean square plus epsilon; the reference divides by the square
  root of it. A mean of squares is never negative, even where entries are infinite, and epsilon is positive, so the number
  under the root is positive, and there the two agree.
-/
module

public import Idealize.ShloMosaic.PureOps.Ideal
public import Idealize.ShloMosaic.Lib.IdealHost

@[expose] public section

noncomputable section

namespace Cert.Rms

open Idealize.ShloMosaic
open scoped BigOperators

/-- The number of columns, 1024, as the programs spell it. -/
abbrev width : EReal := Ideal.ofBits .f32 0x44800000#32
/-- Epsilon, the f32 nearest to 0.00001, as the programs spell it. -/
abbrev eps : EReal := Ideal.ofBits .f32 0x3727C5AC#32

/-- The width is the real number 1024. -/
theorem width_eq : width = ((1024 : ℝ) : EReal) := by
  simp [width, Ideal.ofBits, Ideal.ieee, -EReal.coe_mul]; norm_num

/-- Epsilon is positive. -/
theorem eps_pos : 0 < eps := by
  have h : ∃ r : ℝ, 0 < r ∧ eps = (r : EReal) := by
    refine ⟨_, ?_, by simp [eps, Ideal.ofBits, Ideal.ieee, -EReal.coe_mul]; rfl⟩
    norm_num
  obtain ⟨r, hr, e⟩ := h
  rw [e]; exact EReal.coe_pos.mpr hr

/-- A square is not negative. -/
theorem sq_nonneg (x : EReal) : 0 ≤ x * x := by
  rcases le_total 0 x with h | h
  · exact mul_nonneg h h
  · have := EReal.neg_nonneg.mpr h
    rw [← neg_mul_neg]; exact mul_nonneg this this

/-- A number that is not negative, over the width, plus epsilon, is positive. -/
theorem under_root_pos {s : EReal} (h : 0 ≤ s) : 0 < Ideal.div s width + eps := by
  have hw : width ≠ 0 := by rw [width_eq]; exact_mod_cast (by norm_num : (1024 : ℝ) ≠ 0)
  have hd : 0 ≤ Ideal.div s width := by
    unfold Ideal.div
    rw [if_neg hw, width_eq, ← EReal.coe_inv]
    exact mul_nonneg h (EReal.coe_nonneg.mpr (by norm_num))
  exact lt_of_lt_of_le eps_pos (le_add_of_nonneg_left hd)

/-- Over a positive number's square root, and times its reciprocal square root, are the same. -/
theorem div_sqrt (a : EReal) {t : EReal} (h : 0 < t) : Ideal.div a (Ideal.sqrt t) = a * Ideal.rsqrt t := by
  induction t with
  | bot => exact absurd h (by simp)
  | top => simp [Ideal.div]
  | coe r =>
    have hr : 0 < r := EReal.coe_pos.mp h
    have hs : Real.sqrt r ≠ 0 := (Real.sqrt_pos.mpr hr).ne'
    rw [Ideal.sqrt_coe, Ideal.rsqrt_coe, if_neg hr.le.not_gt, if_neg hr.le.not_gt, if_neg hr.ne']
    unfold Ideal.div
    rw [if_neg (by exact_mod_cast hs), EReal.coe_inv]

/-- A sum over 1024 columns is the sum over the first 512 plus the sum over the last 512. -/
theorem sum_halves (f : Fin 1024 → EReal) :
    ∑ k, f k = (∑ k : Fin 512, f ⟨k.val, by have := k.isLt; omega⟩) + ∑ k : Fin 512, f ⟨512 + k.val, by have := k.isLt; omega⟩ :=
  Fin.sum_univ_add (a := 512) (b := 512) f

end Cert.Rms

end
-- ==== Proof.Values.lean ====
/-
  What the kernel leaves on each device, entry by entry, on extended reals.

  Entry (r, j) of device c's block of the result is x(r, j) · gamma(j), times the reciprocal square root of the mean square
  of row r plus epsilon. The mean is taken over both halves of the row: the device's own and its partner's.
-/
module

public import proofs.«01_k».proof.Proof.Arith
public import proofs.«01_k».proof.Proof.Run
public import Idealize.ShloMosaic.Lib.Pointwise
public import Idealize.ShloMosaic.Lib.Pointwise.Reshape
public import Idealize.ShloMosaic.Lib.Pointwise.Reduce

@[expose] public section

noncomputable section

namespace Cert.Rms

open Idealize.ShloMosaic Idealize.ShloMosaic.TcCoe
open Cert.KernelIdeal Cert.KernelIdeal.Gen
open scoped BigOperators

/-- The sum of the squares of row (a, b) of a device's block of x. -/
def rowSum (v : S6x128x512.Idx → EReal) (a : Fin 6) (b : Fin 128) : EReal := ∑ k : Fin 512, v (ix3 a b k) * v (ix3 a b k)

/-- What the kernel sends its partner: the sums of squares. -/
theorem partial_apply (v : FVec Ideal S6x128x512 .bf16) (a : Fin 6) (b : Fin 128) :
    k0_pay2 (F := Ideal) v (ix3 0 a b) = rowSum v a b := by
  unfold rowSum
  unfold_payloads
  pointwise

/-- The result from x, gamma and the two partial sums. -/
theorem scaled_apply (p q : FVec Ideal S1x6x128 .f32) (v : FVec Ideal S6x128x512 .bf16) (g : FVec Ideal S1x1x512 .bf16)
    (a : Fin 6) (b : Fin 128) (k : Fin 512) :
    k0_pay4 (F := Ideal) p q (k0_pay3 (F := Ideal) (k0_pay1 (F := Ideal) v) g) (ix3 a b k)
      = v (ix3 a b k) * g (ix3 0 0 k) * Ideal.rsqrt (Ideal.div (p (ix3 0 a b) + q (ix3 0 a b)) width + eps) := by
  unfold_payloads
  pointwise

/-- A device's result, from every device's x and its own gamma. -/
theorem outOf_apply (X : Dev nD → FVec Ideal S6x128x512 .bf16) (G : Dev nD → FVec Ideal S1x1x512 .bf16)
    (c : Dev nD) (a : Fin 6) (b : Fin 128) (k : Fin 512) :
    (outOf (F := Ideal) X G c : FVec Ideal S6x128x512 .bf16) (ix3 a b k)
      = X c (ix3 a b k) * G c (ix3 0 0 k) * Ideal.rsqrt (Ideal.div (rowSum (X c) a b + rowSum (X (peer c)) a b) width + eps) := by
  refine (scaled_apply _ _ (X c) (G c) a b k).trans ?_
  rw [show partOf (F := Ideal) X c (ix3 0 a b) = _ from partial_apply (X c) a b,
    show partOf (F := Ideal) X (peer c) (ix3 0 a b) = _ from partial_apply (X (peer c)) a b]

/-! ## The host's reshapes -/

/-- 768 rows in 6 groups of 128. -/
theorem grouped_apply (x : S768x512.Idx → EReal) (h : S768x512.ShapeCasts S6x128x512) (a : Fin 6) (b : Fin 128) (k : Fin 512) :
    shapeCast S6x128x512 x h (ix3 a b k) = x (ix2 ⟨128 * a.val + b.val, by omega⟩ k) :=
  congrArg x (Shape.reshapeEquiv_eq_of_rowMajor _ (by
    rw [Shape.rowMajor_val_two, Shape.rowMajor_val_three]
    show (128 * a.val + b.val) * 512 + k.val = (a.val * 128 + b.val) * 512 + k.val
    omega))

/-- 6 groups of 128 rows in one. -/
theorem ungrouped_apply (x : S6x128x512.Idx → EReal) (h : S6x128x512.ShapeCasts S768x512) (r : Fin 768) (k : Fin 512) :
    shapeCast S768x512 x h (ix2 r k) = x (ix3 ⟨r.val / 128, by omega⟩ ⟨r.val % 128, by omega⟩ k) :=
  congrArg x (Shape.reshapeEquiv_eq_of_rowMajor _ (by
    rw [Shape.rowMajor_val_two, Shape.rowMajor_val_three]
    show (r.val / 128 * 128 + r.val % 128) * 512 + k.val = r.val * 512 + k.val
    omega))

/-- A vector under two axes of length one. -/
theorem lifted_apply (x : S512.Idx → EReal) (h : S512.ShapeCasts S1x1x512) (k : Fin 512) :
    shapeCast S1x1x512 x h (ix3 0 0 k) = x (ix1 k) :=
  congrArg x (Shape.reshapeEquiv_eq_of_rowMajor _ (by
    rw [Shape.rowMajor_val_one, Shape.rowMajor_val_three]
    show k.val = (0 * 1 + 0) * 512 + k.val
    omega))

/-! ## The program -/

section Program

/-- The first reshape groups the rows of x. -/
theorem first_x (W : Valuation τ sig (Elt Ideal)) : (StableHlo.after hostOps0 W (Proc.devRef .tc main_v1) : S6x128x512.Idx → EReal)
    = shapeCast S6x128x512 (W (Proc.devRef .tc main_arg0) : S768x512.Idx → EReal) (by decide) := by
  after_results
  rfl

/-- The second reshape lifts gamma. -/
theorem first_g (W : Valuation τ sig (Elt Ideal)) : (StableHlo.after hostOps0 W (Proc.devRef .tc main_v2) : S1x1x512.Idx → EReal)
    = shapeCast S1x1x512 (W (Proc.devRef .tc main_arg1) : S512.Idx → EReal) (by decide) := by
  after_results
  rfl

/-- The last reshape ungroups the rows of the result. -/
theorem last_y (W : Valuation τ sig (Elt Ideal)) : (StableHlo.after hostOps1 W (Proc.devRef .tc main_v4) : S768x512.Idx → EReal)
    = shapeCast S768x512 (W (Proc.devRef .tc main_v3) : S6x128x512.Idx → EReal) (by decide) := by
  after_results
  rfl

variable (m : (ℓ : Loc nD τ sig) → Buf (Elt Ideal) ℓ)

/-- A device's block of x. -/
def xBlock (c : Dev nD) : S768x512.Idx → EReal := m ((c : Thread nD τ).loc main_arg0)
/-- A device's block of gamma. -/
def gBlock (c : Dev nD) : S512.Idx → EReal := m ((c : Thread nD τ).loc main_arg1)
/-- A device's block of the result. -/
def yBlock (c : Dev nD) : S768x512.Idx → EReal := V₃ m c (Proc.devRef .tc main_v4)

/-- Half of the sum of the squares of a row: of the columns that device c holds. -/
def halfSum (c : Dev nD) (r : Fin 768) : EReal := ∑ k : Fin 512, xBlock m c (ix2 r k) * xBlock m c (ix2 r k)

/-- The kernel's x is the device's block. -/
theorem xs_apply (c : Dev nD) (a : Fin 6) (b : Fin 128) (k : Fin 512) :
    (xs m c : FVec Ideal S6x128x512 .bf16) (ix3 a b k) = xBlock m c (ix2 ⟨128 * a.val + b.val, by omega⟩ k) :=
  (congrFun (first_x (V₀ m c)) _).trans (grouped_apply _ _ a b k)

/-- The kernel's gamma is the device's block. -/
theorem gs_apply (c : Dev nD) (k : Fin 512) : (gs m c : FVec Ideal S1x1x512 .bf16) (ix3 0 0 k) = gBlock m c (ix1 k) :=
  (congrFun (first_g (V₀ m c)) _).trans (lifted_apply _ _ k)

/-- The program's result is the kernel's. -/
theorem result_apply (c : Dev nD) (r : Fin 768) (k : Fin 512) :
    yBlock m c (ix2 r k) = (ys m c : FVec Ideal S6x128x512 .bf16) (ix3 ⟨r.val / 128, by omega⟩ ⟨r.val % 128, by omega⟩ k) :=
  (congrFun (last_y (V₂ m c)) _).trans ((ungrouped_apply _ _ r k).trans (congrFun (V₂_self m c) _))

/-- Row r of the block is row (r / 128, r % 128) of the groups. -/
theorem row_eq (r : Fin 768) (h : 128 * (r.val / 128) + r.val % 128 < 768) : (⟨128 * (r.val / 128) + r.val % 128, h⟩ : Fin 768) = r :=
  Fin.ext (Nat.div_add_mod _ _)

/-- The sum of the squares of a grouped row is that of the block's row. -/
theorem rowSum_xs (c : Dev nD) (r : Fin 768) :
    rowSum (xs m c) ⟨r.val / 128, by omega⟩ ⟨r.val % 128, by omega⟩ = halfSum m c r :=
  Finset.sum_congr rfl fun k _ => by rw [xs_apply, row_eq]

/-- Entry (r, k) of a device's block of the result. -/
theorem yBlock_apply (c : Dev nD) (r : Fin 768) (k : Fin 512) :
    yBlock m c (ix2 r k) = xBlock m c (ix2 r k) * gBlock m c (ix1 k)
      * Ideal.rsqrt (Ideal.div (halfSum m c r + halfSum m (peer c) r) width + eps) := by
  rw [result_apply]
  refine (outOf_apply (xs m) (gs m) c _ _ k).trans ?_
  rw [rowSum_xs, rowSum_xs, gs_apply, xs_apply, row_eq]

end Program

end Cert.Rms

end
-- ==== Proof.Reference.lean ====
/-
  What the reference computes, entry by entry, on extended reals, and that it leaves every semaphore at zero.
-/
module

public import proofs.«01_k».proof.Proof.Arith
public import proofs.«01_k».proof.Proof.Gen.ReferenceIdeal.Run
public import Idealize.ShloMosaic.Lib.Quiescent
public import Idealize.ShloMosaic.Lib.Pointwise
public import Idealize.ShloMosaic.Lib.Pointwise.Reduce

@[expose] public section

noncomputable section

namespace Cert.Rms.Ref

open Idealize.ShloMosaic Idealize.ShloMosaic.TcCoe Idealize.SL.Sem
open Cert.ReferenceIdeal Cert.ReferenceIdeal.Gen
open scoped BigOperators

/-- The reference has no semaphores, so all are at zero. -/
theorem sem_zero (s : MemSt nD τ sig (Elt Ideal)) : s.sem = fun _ => 0 := sem_eq_zero_of_no_sems (by decide) s

/-- The reference's result from the whole x and the whole gamma. -/
def out (x : FVec Ideal S1536x1024 .bf16) (g : FVec Ideal S1024 .bf16) : FVec Ideal S1536x1024 .bf16 :=
  truncf .bf16 (Host.divf (mulf (broadcastInDim S1536x1024 ![0, 1] bcast_S1x1024_S1536x1024_0_1
      (broadcastInDim S1x1024 ![1] bcast_S1024_S1x1024_1 (extf .f32 g bitsLt_bf16_f32))) (extf .f32 x bitsLt_bf16_f32))
    (broadcastInDim S1536x1024 ![0, 1] bcast_S1536x1_S1536x1024_0_1 (Host.sqrt (addf
      (Host.divf (broadcastInDim S1536x1 ![0] bcast_S1536_S1536x1_0
          (Host.reduceAdd (mulf (extf .f32 x bitsLt_bf16_f32) (extf .f32 x bitsLt_bf16_f32)) (constant S_ .f32 0x00000000#32)
            reducesTo_S1536x1024_S1536_d1 h_S_))
        (broadcastInDim S1536x1 ![] bcast_S_S1536x1 (constant S_ .f32 0x44800000#32)))
      (broadcastInDim S1536x1 ![] bcast_S_S1536x1 (constant S_ .f32 0x3727C5AC#32)))))) bitsLt_bf16_f32

/-- Entry (r, j) of the reference's result, with the normaliser as the reference has it. -/
theorem out_apply_div (x : FVec Ideal S1536x1024 .bf16) (g : FVec Ideal S1024 .bf16) (r : Fin 1536) (j : Fin 1024) :
    out x g (ix2 r j) = Ideal.div (g (ix1 j) * x (ix2 r j))
      (Ideal.sqrt (Ideal.div (∑ k : Fin 1024, x (ix2 r k) * x (ix2 r k)) width + eps)) := by
  unfold out
  pointwise

/-- Entry (r, j) of the reference's result, as the kernel computes it. -/
theorem out_apply (x : FVec Ideal S1536x1024 .bf16) (g : FVec Ideal S1024 .bf16) (r : Fin 1536) (j : Fin 1024) :
    out x g (ix2 r j) = x (ix2 r j) * g (ix1 j)
      * Ideal.rsqrt (Ideal.div (∑ k : Fin 1024, x (ix2 r k) * x (ix2 r k)) width + eps) := by
  rw [out_apply_div, div_sqrt _ (under_root_pos (Finset.sum_nonneg fun k _ => sq_nonneg _)), mul_comm (g (ix1 j))]

end Cert.Rms.Ref

end
-- ==== Proof.Equation.lean ====
/-
  The kernel's blocks are the blocks of the reference's result.

  Device c stands at row c / 2 and column c % 2 of the mesh, and holds rows 768 · (c / 2) … and columns 512 · (c % 2) … of x
  and of the result. Its partner holds the other 512 columns of the same rows, so the two half sums make up the row's sum,
  in one order or the other.
-/
module

public import proofs.«01_k».proof.Proof.Values
public import proofs.«01_k».proof.Proof.Reference
public import Idealize.ShloMosaic.Lib.Layout

@[expose] public section

noncomputable section

namespace Cert.Rms

open Idealize.ShloMosaic Idealize.ShloMosaic.TcCoe Idealize.SL.Sem
open Cert.KernelIdeal Cert.KernelIdeal.Gen
open scoped BigOperators

/-- Where row r of device c's block is in the whole array. -/
abbrev rowAt (c : Dev nD) (r : Fin 768) : Fin 1536 := ⟨c.val / 2 * 768 + r.val, by have := c.isLt; simp only [nD] at this; omega⟩
/-- Where column k of device c's block is in the whole array. -/
abbrev colAt (c : Dev nD) (k : Fin 512) : Fin 1024 := ⟨c.val % 2 * 512 + k.val, by omega⟩

/-- Device c's block of a whole array like x, entry by entry. -/
theorem block_apply (X : (⟨2, ![1536, 1024]⟩ : Shape).Idx → EReal) (c : Dev nD) (r : Fin 768) (k : Fin 512) :
    Layout.blockN ⟨2, ![768, 512]⟩ ⟨2, ![1536, 1024]⟩ (Layout.meshBlock [2, 2] ![[0], [1]] c) X (by decide) (ix2 r k)
      = X (ix2 (rowAt c r) (colAt c k)) := by
  rw [Layout.blockN_apply]
  congr 1
  funext b
  apply Fin.ext
  have hc : c.val < 4 := c.isLt
  match b with
  | ⟨0, _⟩ =>
    rw [Layout.TilesN.idx_val]
    show (c.val / 2 % 2 * 1 + 0) * 768 + r.val = c.val / 2 * 768 + r.val
    omega
  | ⟨1, _⟩ =>
    rw [Layout.TilesN.idx_val]
    show (c.val / 1 % 2 * 1 + 0) * 512 + k.val = c.val % 2 * 512 + k.val
    omega

/-- Device c's block of the whole gamma, entry by entry. -/
theorem block_gamma_apply (G : (⟨1, ![1024]⟩ : Shape).Idx → EReal) (c : Dev nD) (k : Fin 512) :
    Layout.blockN ⟨1, ![512]⟩ ⟨1, ![1024]⟩ (Layout.meshBlock [2, 2] ![[1]] c) G (by decide) (ix1 k) = G (ix1 (colAt c k)) := by
  rw [Layout.blockN_apply]
  congr 1
  funext b
  apply Fin.ext
  match b with
  | ⟨0, _⟩ =>
    rw [Layout.TilesN.idx_val]
    show (c.val / 1 % 2 * 1 + 0) * 512 + k.val = c.val % 2 * 512 + k.val
    omega

/-- The partner holds the same rows. -/
theorem rowAt_peer (c : Dev nD) (r : Fin 768) : rowAt (peer c) r = rowAt c r := by
  apply Fin.ext
  show (2 * (c.val / 2) + 1 - c.val % 2) / 2 * 768 + r.val = c.val / 2 * 768 + r.val
  omega

/-- Over a row's 1024 columns, a sum is that over device c's columns plus that over its partner's. -/
theorem sum_both (c : Dev nD) (f : Fin 1024 → EReal) : ∑ j, f j = (∑ k, f (colAt c k)) + ∑ k, f (colAt (peer c) k) := by
  have hp : (peer c).val = 2 * (c.val / 2) + 1 - c.val % 2 := rfl
  rw [sum_halves f]
  rcases Nat.mod_two_eq_zero_or_one c.val with h | h
  · congr 1 <;> refine Finset.sum_congr rfl fun k _ => congrArg f (Fin.ext ?_)
    · show k.val = c.val % 2 * 512 + k.val
      omega
    · show 512 + k.val = (peer c).val % 2 * 512 + k.val
      omega
  · rw [add_comm]
    congr 1 <;> refine Finset.sum_congr rfl fun k _ => congrArg f (Fin.ext ?_)
    · show 512 + k.val = c.val % 2 * 512 + k.val
      omega
    · show k.val = (peer c).val % 2 * 512 + k.val
      omega

variable (m : (ℓ : Loc nD τ sig) → Buf (Elt Ideal) ℓ) (X : (⟨2, ![1536, 1024]⟩ : Shape).Idx → EReal) (G : (⟨1, ![1024]⟩ : Shape).Idx → EReal)

/-- If every device holds its block of x and of gamma, it ends with its block of the reference's result. -/
theorem yBlock_eq
    (hx : ∀ c : Dev nD, xBlock m c = Layout.blockN ⟨2, ![768, 512]⟩ ⟨2, ![1536, 1024]⟩ (Layout.meshBlock [2, 2] ![[0], [1]] c) X (by decide))
    (hg : ∀ c : Dev nD, gBlock m c = Layout.blockN ⟨1, ![512]⟩ ⟨1, ![1024]⟩ (Layout.meshBlock [2, 2] ![[1]] c) G (by decide)) (c : Dev nD) :
    yBlock m c = Layout.blockN ⟨2, ![768, 512]⟩ ⟨2, ![1536, 1024]⟩ (Layout.meshBlock [2, 2] ![[0], [1]] c) (Ref.out X G) (by decide) := by
  have hs (d : Dev nD) (r : Fin 768) :
      halfSum m d r = ∑ k : Fin 512, X (ix2 (rowAt d r) (colAt d k)) * X (ix2 (rowAt d r) (colAt d k)) :=
    Finset.sum_congr rfl fun k _ => by rw [hx d, block_apply]
  funext i
  obtain ⟨r, k, rfl⟩ : ∃ (r : Fin 768) (k : Fin 512), i = ix2 r k := ⟨i 0, i 1, eq_ix2 i⟩
  rw [yBlock_apply, block_apply, Ref.out_apply, hs, hs, rowAt_peer, hx c, block_apply, hg c, block_gamma_apply,
    sum_both c fun j => X (ix2 (rowAt c r) j) * X (ix2 (rowAt c r) j)]

end Cert.Rms

end
-- ==== Proof.SameText.lean ====
/-
  The kernel and its ideal program have the same text, so their tables of bodies are the same, at any float values. What
  the ideal program's run does, the kernel's does.
-/
module

public import proofs.«01_k».proof.Proof.Gen.Kernel
public import proofs.«01_k».proof.Proof.Gen.KernelIdeal

@[expose] public section

noncomputable section

namespace Cert.Rms

open Idealize.ShloMosaic

variable {F : FTy → Type} [FloatOps F]

/-- The kernel's body is the same in both. -/
theorem bodies_eq : Cert.Kernel.defs₀ (F := F) = Cert.KernelIdeal.defs₀ (F := F) := by
  unfold Cert.Kernel.defs₀ Cert.KernelIdeal.defs₀
  refine congrArg Defs.onTc ?_
  funext l a
  match l, a with
  | 0, (t, s) => rfl

/-- So is the table with the call's pipeline. -/
theorem defs_eq : Cert.Kernel.defs (F := F) = Cert.KernelIdeal.defs (F := F) :=
  congrArg (Pipeline.defs Cert.KernelIdeal.pcfgs) bodies_eq

end Cert.Rms

end
-- ==== Proof.lean ====
/-
  The proof of `Cert.Claim` (Defs.lean): the kernel, its ideal program and the reference run, leave their arguments as they
  were and every semaphore at zero; the ideal program is the kernel's own text; and over the extended reals each device ends
  with its block of the reference's result.
-/
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.ReferenceIdeal.Run
public import proofs.«01_k».proof.Proof.Run
public import proofs.«01_k».proof.Proof.Equation
public import proofs.«01_k».proof.Proof.SameText
public import Idealize.ShloMosaic.Adequacy
public import Idealize.ShloMosaic.Init

@[expose] public section

noncomputable section

namespace Cert.Proof

open Idealize.ShloMosaic Idealize.SL.Sem Cert.Kernel

/-- The kernel runs, leaves its arguments unchanged and every semaphore at zero: its text is the ideal program's, whose run
    holds for any float values. -/
theorem frame_kernel : Cert.quiescent_Kernel := by
  intro m ρ _
  rw [Cert.Rms.defs_eq]
  exact (θ_run Cert.KernelIdeal.defs _ _).mono (fun _ h => And.intro (fun c => (h.1 c).2) h.2) (Cert.Rms.run_main (F := Bits) m ρ)

/-- So does the ideal program. -/
theorem frame_ideal : Cert.quiescent_KernelIdeal := fun m ρ _ =>
  (θ_run Cert.KernelIdeal.defs _ _).mono (fun _ h => ⟨fun c => (h.1 c).2, h.2⟩) (Cert.Rms.run_main (F := Ideal) m ρ)

/-- So does the reference. -/
theorem frame_reference : Cert.quiescent_ReferenceIdeal := fun m ρ _ =>
  (θ_run Cert.ReferenceIdeal.defs _ _).mono (fun r h => ⟨fun c => (h c).2, Cert.Rms.Ref.sem_zero r.2⟩)
    (Cert.ReferenceIdeal.Value.run (F := Ideal) m ρ)

/-- Over the extended reals every device ends with its block of the reference's result. -/
theorem value : Cert.algebraic_KernelIdeal_ReferenceIdeal := by
  intro m ρ m' ρ' _ hin
  refine ⟨Cert.Rms.Ref.out (m' (((0 : Dev Cert.ReferenceIdeal.nD).tc : Thread Cert.ReferenceIdeal.nD Cert.ReferenceIdeal.τ).loc Cert.ReferenceIdeal.main_arg0))
    (m' (((0 : Dev Cert.ReferenceIdeal.nD).tc : Thread Cert.ReferenceIdeal.nD Cert.ReferenceIdeal.τ).loc Cert.ReferenceIdeal.main_arg1)), ?_, ?_⟩
  · exact (θ_run Cert.KernelIdeal.defs _ _).mono
      (fun r h c => ⟨(h.1 c).1.trans (Cert.Rms.yBlock_eq m _ _ (fun d => (hin d).1) (fun d => (hin d).2) c), (h.1 c).2⟩)
      (Cert.Rms.run_main (F := Ideal) m ρ)
  · exact (θ_run Cert.ReferenceIdeal.defs _ _).mono (fun r h => h 0) (Cert.ReferenceIdeal.Value.run (F := Ideal) m' ρ')

/-- The five claims. -/
theorem claim : Cert.Claim := ⟨Cert.Kernel.Gen.facts, Cert.KernelIdeal.Gen.facts, Cert.ReferenceIdeal.Gen.facts,
  frame_kernel, frame_ideal, frame_reference, trivial, value⟩

end Cert.Proof

end
